-- ==== Defs.lean ====
def Pre_Kernel [hPre_words_in_table : Cert.Pre_words_in_table.Facts] (m : (ℓ : Loc Cert.Kernel.nD Cert.Kernel.τ Cert.Kernel.sig) → Buf (Elt Bits) ℓ) : Prop :=
  ∀ c : Dev Cert.Kernel.nD,
    (Cert.Pre_words_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_words_in_table : Cert.Pre_words_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_words_in_table : Cert.Pre_words_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_words_in_table : Cert.Pre_words_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_words_in_table : Cert.Pre_words_in_table.Facts) (hPre_inputs_in_range : Cert.Pre_inputs_in_range.Facts),
    quiescent_Kernel (hKernel := hKernel) (hPre_words_in_table := hPre_words_in_table)
    ∧ quiescent_KernelIdeal (hKernelIdeal := hKernelIdeal) (hPre_words_in_table := hPre_words_in_table)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S32x512 : Shape := ⟨2, ![32, 512]⟩
abbrev S32x512x2 : Shape := ⟨3, ![32, 512, 2]⟩
abbrev S50000x300 : Shape := ⟨2, ![50000, 300]⟩
abbrev S512x1x3x300 : Shape := ⟨4, ![512, 1, 3, 300]⟩
abbrev S512 : Shape := ⟨1, ![512]⟩
abbrev S1536x1536 : Shape := ⟨2, ![1536, 1536]⟩
abbrev S1536 : Shape := ⟨1, ![1536]⟩
abbrev S8x1536 : Shape := ⟨2, ![8, 1536]⟩
abbrev S8 : Shape := ⟨1, ![8]⟩
abbrev S32x512x1 : Shape := ⟨3, ![32, 512, 1]⟩
abbrev S_ : Shape := ⟨0, ![]⟩

class Facts : Prop where
  slices_S32x512x2_S32x512x1_0_0_0 : S32x512x2.Slices ![0, 0, 0] S32x512x1
  shapeCasts_S32x512x1_S32x512 : S32x512x1.ShapeCasts S32x512
  slices_S32x512x2_S32x512x1_0_0_1 : S32x512x2.Slices ![0, 0, 1] S32x512x1
  bcast_S_S32x512 : S_.BroadcastsInDim S32x512 (![] : Fin 0 → Fin S32x512.rank)
  bcast_S_S50000x300 : S_.BroadcastsInDim S50000x300 (![] : Fin 0 → Fin S50000x300.rank)
  reducesTo_S50000x300_S_d0_1 : S50000x300.ReducesTo [0, 1] S_
  h_S_ : 0 < S_.numel
  bcast_S_S512x1x3x300 : S_.BroadcastsInDim S512x1x3x300 (![] : Fin 0 → Fin S512x1x3x300.rank)
  reducesTo_S512x1x3x300_S_d0_1_2_3 : S512x1x3x300.ReducesTo [0, 1, 2, 3] S_
  bcast_S_S512 : S_.BroadcastsInDim S512 (![] : Fin 0 → Fin S512.rank)
  reducesTo_S512_S_d0 : S512.ReducesTo [0] S_

variable [Facts]

def fn_part1 {F : FTy → Type} [FloatOps F] (main_arg3 : FVec F S512x1x3x300 .f32) (main_arg4 : FVec F S512 .f32) (main_v8 : IVec S32x512 1) (main_v15 : IVec S32x512 1) (main_v18 : IVec S50000x300 1) : IVec S32x512 1 :=
  let main_c_3 : IVec S_ 1 := constantI S_ 1 1#1
  let main_v19 : IVec S_ 1 := (fun x v => Host.reduce IntOp.andi x v reducesTo_S50000x300_S_d0_1 h_S_) main_v18 main_c_3
  let main_v20 : FVec F S512x1x3x300 .f32 := Host.absf main_arg3
  let main_cst_4 : FVec F S_ .f32 := constant S_ .f32 0x7F800000#32
  let main_v21 : FVec F S512x1x3x300 .f32 := broadcastInDim S512x1x3x300 ![] bcast_S_S512x1x3x300 main_cst_4
  let main_v22 : IVec S512x1x3x300 1 := cmpf .olt main_v20 main_v21
  let main_c_5 : IVec S_ 1 := constantI S_ 1 1#1
  let main_v23 : IVec S_ 1 := (fun x v => Host.reduce IntOp.andi x v reducesTo_S512x1x3x300_S_d0_1_2_3 h_S_) main_v22 main_c_5
  let main_v24 : IVec S_ 1 := andi main_v19 main_v23
  let main_v25 : FVec F S512 .f32 := Host.absf main_arg4
  let main_cst_6 : FVec F S_ .f32 := constant S_ .f32 0x7F800000#32
  let main_v26 : FVec F S512 .f32 := broadcastInDim S512 ![] bcast_S_S512 main_cst_6
  let main_v27 : IVec S512 1 := cmpf .olt main_v25 main_v26
  let main_c_7 : IVec S_ 1 := constantI S_ 1 1#1
  let main_v28 : IVec S_ 1 := (fun x v => Host.reduce IntOp.andi x v reducesTo_S512_S_d0 h_S_) main_v27 main_c_7
  let main_v29 : IVec S_ 1 := andi main_v24 main_v28
  let main_v30 : IVec S32x512 1 := andi main_v8 main_v15
  let main_v31 : IVec S32x512 1 := broadcastInDim S32x512 ![] bcast_S_S32x512 main_v29
  let main_v32 : IVec S32x512 1 := andi main_v30 main_v31
  main_v32

def fn {F : FTy → Type} [FloatOps F] (main_arg0 : IVec S32x512 32) (main_arg1 : IVec S32x512x2 32) (main_arg2 : FVec F S50000x300 .f32) (main_arg3 : FVec F S512x1x3x300 .f32) (main_arg4 : FVec F S512 .f32) (main_arg5 : FVec F S1536x1536 .f32) (main_arg6 : FVec F S1536 .f32) (main_arg7 : FVec F S8x1536 .f32) (main_arg8 : FVec F S8 .f32) : IVec S32x512 1 :=
  let main_v0 : IVec S32x512x1 32 := (extractStridedSlice S32x512x1 ![0, 0, 0] · slices_S32x512x2_S32x512x1_0_0_0) main_arg1
  let main_v1 : IVec S32x512 32 := shapeCast S32x512 main_v0 shapeCasts_S32x512x1_S32x512
  let main_v2 : IVec S32x512x1 32 := (extractStridedSlice S32x512x1 ![0, 0, 1] · slices_S32x512x2_S32x512x1_0_0_1) main_arg1
  let main_v3 : IVec S32x512 32 := shapeCast S32x512 main_v2 shapeCasts_S32x512x1_S32x512
  let main_c : IVec S_ 32 := constantI S_ 32 0#32
  let main_v4 : IVec S32x512 32 := broadcastInDim S32x512 ![] bcast_S_S32x512 main_c
  let main_v5 : IVec S32x512 1 := cmpi .sge main_arg0 main_v4
  let main_c_0 : IVec S_ 32 := constantI S_ 32 50000#32
  let main_v6 : IVec S32x512 32 := broadcastInDim S32x512 ![] bcast_S_S32x512 main_c_0
  let main_v7 : IVec S32x512 1 := cmpi .slt main_arg0 main_v6
  let main_v8 : IVec S32x512 1 := andi main_v5 main_v7
  let main_c_1 : IVec S_ 32 := constantI S_ 32 0#32
  let main_v9 : IVec S32x512 32 := broadcastInDim S32x512 ![] bcast_S_S32x512 main_c_1
  let main_v10 : IVec S32x512 1 := cmpi .sge main_v1 main_v9
  let main_v11 : IVec S32x512 1 := cmpi .slt main_v1 main_v3
  let main_v12 : IVec S32x512 1 := andi main_v10 main_v11
  let main_c_2 : IVec S_ 32 := constantI S_ 32 512#32
  let main_v13 : IVec S32x512 32 := broadcastInDim S32x512 ![] bcast_S_S32x512 main_c_2
  let main_v14 : IVec S32x512 1 := cmpi .sle main_v3 main_v13
  let main_v15 : IVec S32x512 1 := andi main_v12 main_v14
  let main_v16 : FVec F S50000x300 .f32 := Host.absf main_arg2
  let main_cst : FVec F S_ .f32 := constant S_ .f32 0x7F800000#32
  let main_v17 : FVec F S50000x300 .f32 := broadcastInDim S50000x300 ![] bcast_S_S50000x300 main_cst
  let main_v18 : IVec S50000x300 1 := cmpf .olt main_v16 main_v17
  fn_part1 (F := F) main_arg3 main_arg4 main_v8 main_v15 main_v18
-- ==== Pre_words_in_table.lean ====
abbrev S32x512 : Shape := ⟨2, ![32, 512]⟩
abbrev S32x512x2 : Shape := ⟨3, ![32, 512, 2]⟩
abbrev S50000x300 : Shape := ⟨2, ![50000, 300]⟩
abbrev S512x1x3x300 : Shape := ⟨4, ![512, 1, 3, 300]⟩
abbrev S512 : Shape := ⟨1, ![512]⟩
abbrev S1536x1536 : Shape := ⟨2, ![1536, 1536]⟩
abbrev S1536 : Shape := ⟨1, ![1536]⟩
abbrev S8x1536 : Shape := ⟨2, ![8, 1536]⟩
abbrev S8 : Shape := ⟨1, ![8]⟩
abbrev S_ : Shape := ⟨0, ![]⟩

class Facts : Prop where
  bcast_S_S32x512 : S_.BroadcastsInDim S32x512 (![] : Fin 0 → Fin S32x512.rank)

variable [Facts]

def fn {F : FTy → Type} [FloatOps F] (main_arg0 : IVec S32x512 32) (main_arg1 : IVec S32x512x2 32) (main_arg2 : FVec F S50000x300 .f32) (main_arg3 : FVec F S512x1x3x300 .f32) (main_arg4 : FVec F S512 .f32) (main_arg5 : FVec F S1536x1536 .f32) (main_arg6 : FVec F S1536 .f32) (main_arg7 : FVec F S8x1536 .f32) (main_arg8 : FVec F S8 .f32) : IVec S32x512 1 :=
  let main_c : IVec S_ 32 := constantI S_ 32 0#32
  let main_v0 : IVec S32x512 32 := broadcastInDim S32x512 ![] bcast_S_S32x512 main_c
  let main_v1 : IVec S32x512 1 := cmpi .sge main_arg0 main_v0
  let main_c_0 : IVec S_ 32 := constantI S_ 32 50000#32
  let main_v2 : IVec S32x512 32 := broadcastInDim S32x512 ![] bcast_S_S32x512 main_c_0
  let main_v3 : IVec S32x512 1 := cmpi .slt main_arg0 main_v2
  let main_v4 : IVec S32x512 1 := andi main_v1 main_v3
  main_v4
-- ==== Kernel.lean ====
abbrev S32x512 : Shape := ⟨2, ![32, 512]⟩
abbrev S32x512x2 : Shape := ⟨3, ![32, 512, 2]⟩
abbrev S50000x300 : Shape := ⟨2, ![50000, 300]⟩
abbrev S512x1x3x300 : Shape := ⟨4, ![512, 1, 3, 300]⟩
abbrev S512 : Shape := ⟨1, ![512]⟩
abbrev S1536x1536 : Shape := ⟨2, ![1536, 1536]⟩
abbrev S1536 : Shape := ⟨1, ![1536]⟩
abbrev S8x1536 : Shape := ⟨2, ![8, 1536]⟩
abbrev S8 : Shape := ⟨1, ![8]⟩
abbrev S16384 : Shape := ⟨1, ![16384]⟩
abbrev S512x3x300 : Shape := ⟨3, ![512, 3, 300]⟩
abbrev S3x300x512 : Shape := ⟨3, ![3, 300, 512]⟩
abbrev S32x512x1 : Shape := ⟨3, ![32, 512, 1]⟩
abbrev S32x1x512 : Shape := ⟨3, ![32, 1, 512]⟩
abbrev S1x512 : Shape := ⟨2, ![1, 512]⟩
abbrev S1x1536 : Shape := ⟨2, ![1, 1536]⟩
abbrev S1536x8 : Shape := ⟨2, ![1536, 8]⟩
abbrev S1x8 : Shape := ⟨2, ![1, 8]⟩
abbrev S32x512x8 : Shape := ⟨3, ![32, 512, 8]⟩
abbrev S1x1x512 : Shape := ⟨3, ![1, 1, 512]⟩
abbrev S1x512x8 : Shape := ⟨3, ![1, 512, 8]⟩
abbrev S2x512x300 : Shape := ⟨3, ![2, 512, 300]⟩
abbrev S2 : Shape := ⟨1, ![2]⟩
abbrev S1 : Shape := ⟨1, ![1]⟩
abbrev S_ : Shape := ⟨0, ![]⟩
abbrev S1x1x300 : Shape := ⟨3, ![1, 1, 300]⟩
abbrev S300 : Shape := ⟨1, ![300]⟩
abbrev S1x300 : Shape := ⟨2, ![1, 300]⟩
abbrev S1x512x300 : Shape := ⟨3, ![1, 512, 300]⟩
abbrev S512x300 : Shape := ⟨2, ![512, 300]⟩
abbrev S511x300 : Shape := ⟨2, ![511, 300]⟩
abbrev S1x300x512 : Shape := ⟨3, ![1, 300, 512]⟩
abbrev S300x512 : Shape := ⟨2, ![300, 512]⟩
abbrev S512x512 : Shape := ⟨2, ![512, 512]⟩
abbrev S512x1536 : Shape := ⟨2, ![512, 1536]⟩
abbrev S512x8 : Shape := ⟨2, ![512, 8]⟩
abbrev S16384x8 : Shape := ⟨2, ![16384, 8]⟩
abbrev S32 : Shape := ⟨1, ![32]⟩

abbrev nBuf : Space → Nat
  | .hbm => 29
  | .vmem => 13
  | .smem => 1
  | _ => 0

abbrev bufTy : (tb : Table) → Fin (tcTables nBuf tb) → BufTy
  | .hbm, ⟨0, _⟩ => ⟨S32x512, .i32⟩
  | .hbm, ⟨1, _⟩ => ⟨S32x512x2, .i32⟩
  | .hbm, ⟨2, _⟩ => ⟨S50000x300, .f32⟩
  | .hbm, ⟨3, _⟩ => ⟨S512x1x3x300, .f32⟩
  | .hbm, ⟨4, _⟩ => ⟨S512, .f32⟩
  | .hbm, ⟨5, _⟩ => ⟨S1536x1536, .f32⟩
  | .hbm, ⟨6, _⟩ => ⟨S1536, .f32⟩
  | .hbm, ⟨7, _⟩ => ⟨S8x1536, .f32⟩
  | .hbm, ⟨8, _⟩ => ⟨S8, .f32⟩
  | .hbm, ⟨9, _⟩ => ⟨S512x3x300, .f32⟩
  | .hbm, ⟨10, _⟩ => ⟨S3x300x512, .f32⟩
  | .hbm, ⟨11, _⟩ => ⟨S32x512x1, .i32⟩
  | .hbm, ⟨12, _⟩ => ⟨S32x512, .i32⟩
  | .hbm, ⟨13, _⟩ => ⟨S32x1x512, .i32⟩
  | .hbm, ⟨14, _⟩ => ⟨S32x512x1, .i32⟩
  | .hbm, ⟨15, _⟩ => ⟨S32x512, .i32⟩
  | .hbm, ⟨16, _⟩ => ⟨S32x1x512, .i32⟩
  | .hbm, ⟨17, _⟩ => ⟨S1x512, .f32⟩
  | .hbm, ⟨18, _⟩ => ⟨S1536x1536, .f32⟩
  | .hbm, ⟨19, _⟩ => ⟨S1x1536, .f32⟩
  | .hbm, ⟨20, _⟩ => ⟨S1536x8, .f32⟩
  | .hbm, ⟨21, _⟩ => ⟨S1x8, .f32⟩
  | .hbm, ⟨22, _⟩ => ⟨S32x512x8, .f32⟩
  | .hbm, ⟨23, _⟩ => ⟨S16384x8, .f32⟩
  | .hbm, ⟨24, _⟩ => ⟨S_, .i32⟩
  | .hbm, ⟨25, _⟩ => ⟨S32, .i32⟩
  | .hbm, ⟨26, _⟩ => ⟨S_, .i32⟩
  | .hbm, ⟨27, _⟩ => ⟨S_, .i32⟩
  | .hbm, ⟨28, _⟩ => ⟨S32, .i32⟩
  | .local _ .vmem, ⟨0, _⟩ => ⟨S3x300x512, .f32⟩
  | .local _ .vmem, ⟨1, _⟩ => ⟨S1x512, .f32⟩
  | .local _ .vmem, ⟨2, _⟩ => ⟨S1x1x512, .i32⟩
  | .local _ .vmem, ⟨3, _⟩ => ⟨S1x1x512, .i32⟩
  | .local _ .vmem, ⟨4, _⟩ => ⟨S1x1x512, .i32⟩
  | .local _ .vmem, ⟨5, _⟩ => ⟨S1x1x512, .i32⟩
  | .local _ .vmem, ⟨6, _⟩ => ⟨S1536x1536, .f32⟩
  | .local _ .vmem, ⟨7, _⟩ => ⟨S1x1536, .f32⟩
  | .local _ .vmem, ⟨8, _⟩ => ⟨S1536x8, .f32⟩
  | .local _ .vmem, ⟨9, _⟩ => ⟨S1x8, .f32⟩
  | .local _ .vmem, ⟨10, _⟩ => ⟨S1x512x8, .f32⟩
  | .local _ .vmem, ⟨11, _⟩ => ⟨S1x512x8, .f32⟩
  | .local _ .vmem, ⟨12, _⟩ => ⟨S2x512x300, .f32⟩
  | .local _ .smem, ⟨0, _⟩ => ⟨S16384, .i32⟩
  | _, _ => ⟨S32x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_call0_call0_c : Ref sig .tc := ⟨.hbm, 26, rfl⟩
abbrev main_call0_call0_v0 : Ref sig .tc := ⟨.hbm, 27, rfl⟩
abbrev main_v17 : Ref sig .tc := ⟨.hbm, 28, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_52 : BitVec 32 := 0#32
  let c512_i32_53 : BitVec 32 := 512#32
  let v93 : BitVec 32 := Scalar.addi c0_i32_52 c512_i32_53
  let c1_i32_54 : BitVec 32 := 1#32
  ⟨c0_i32_52, v93, c1_i32_54⟩
def k0_off1 (k0_t1 : Fin k0_t1_loop.trips) : Fin 1 → Nat :=
  let c0_i32_56 : BitVec 32 := 0#32
  let c0_i32_52 : BitVec 32 := 0#32
  let c1_i32_54 : BitVec 32 := 1#32
  let arg14 : BitVec 32 := Scf.iv c0_i32_52 c1_i32_54 k0_t1
  let v94 : BitVec 32 := Scalar.addi c0_i32_56 arg14
  let v95 : Index := Scalar.indexCast v94
  ![v95.toNat]
def k0_off2 (k0_t1 : Fin k0_t1_loop.trips) : Fin 3 → Nat :=
  let c0_i32_57 : BitVec 32 := 0#32
  let c0_i32_52 : BitVec 32 := 0#32
  let c1_i32_54 : BitVec 32 := 1#32
  let arg14 : BitVec 32 := Scf.iv c0_i32_52 c1_i32_54 k0_t1
  let c0_i32_59 : BitVec 32 := 0#32
  ![0, arg14.toNat, 0]
def k0_off3 (v96 : BitVec 32) : Fin 2 → Nat :=
  let c0_i32_60 : BitVec 32 := 0#32
  ![v96.toNat, 0]

def k0_chk1 (i : grid0.Coords) (v96 : BitVec 32) : Prop :=
  (∀ (k0_h1 : k0_cond1 i = 1#1), ∀ a, (k0_off3 v96) a + S1x300.size a ≤ S50000x300.size a)
theorem k0_off3_inb : ∀ (i : grid0.Coords) (v96 : BitVec 32) (k0_hw1 : k0_chk1 i v96), ∀ (k0_h1 : k0_cond1 i = 1#1), ∀ a, (k0_off3 v96) a + S1x300.size a ≤ S50000x300.size a := fun i v96 k0_hw1 k0_h1 => k0_hw1 k0_h1

def k0_cond2 (i : grid0.Coords) : BitVec 1 :=
  let arg0 : BitVec 32 := BitVec.ofNat 32 (i 0).val
  let c31_i32 : BitVec 32 := 31#32
  let v4 : BitVec 1 := Scalar.cmpi .slt arg0 c31_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_55 : BitVec 32 := 0#32
  let c512_i32_56 : BitVec 32 := 512#32
  let v96 : BitVec 32 := Scalar.addi c0_i32_55 c512_i32_56
  let c1_i32_57 : BitVec 32 := 1#32
  ⟨c0_i32_55, v96, c1_i32_57⟩
def k0_off4 (i : grid0.Coords) (k0_t2 : Fin k0_t2_loop.trips) : Fin 1 → Nat :=
  let arg0 : BitVec 32 := BitVec.ofNat 32 (i 0).val
  let c1_i32_52 : BitVec 32 := 1#32
  let v93 : BitVec 32 := Scalar.addi arg0 c1_i32_52
  let c512_i32_53 : BitVec 32 := 512#32
  let v94 : BitVec 32 := Scalar.muli v93 c512_i32_53
  let c0_i32_55 : BitVec 32 := 0#32
  let c1_i32_57 : BitVec 32 := 1#32
  let arg14 : BitVec 32 := Scf.iv c0_i32_55 c1_i32_57 k0_t2
  let v97 : BitVec 32 := Scalar.addi v94 arg14
  let v98 : Index := Scalar.indexCast v97
  ![v98.toNat]
def k0_off5 (i : grid0.Coords) : Fin 1 → Nat :=
  let c1_i32_54 : BitVec 32 := 1#32
  let arg0 : BitVec 32 := BitVec.ofNat 32 (i 0).val
  let c2_i32 : BitVec 32 := 2#32
  let v0 : BitVec 32 := Scalar.remsi arg0 c2_i32
  let v95 : BitVec 32 := Scalar.subi c1_i32_54 v0
  ![v95.toNat]
def k0_off6 (i : grid0.Coords) (k0_t2 : Fin k0_t2_loop.trips) : Fin 3 → Nat :=
  let c1_i32_54 : BitVec 32 := 1#32
  let arg0 : BitVec 32 := BitVec.ofNat 32 (i 0).val
  let c2_i32 : BitVec 32 := 2#32
  let v0 : BitVec 32 := Scalar.remsi arg0 c2_i32
  let v95 : BitVec 32 := Scalar.subi c1_i32_54 v0
  let c0_i32_55 : BitVec 32 := 0#32
  let c1_i32_57 : BitVec 32 := 1#32
  let arg14 : BitVec 32 := Scf.iv c0_i32_55 c1_i32_57 k0_t2
  let c0_i32_59 : BitVec 32 := 0#32
  ![v95.toNat, arg14.toNat, 0]
def k0_off7 (v99 : BitVec 32) : Fin 2 → Nat :=
  let c0_i32_60 : BitVec 32 := 0#32
  ![v99.toNat, 0]

def k0_chk2 (i : grid0.Coords) (v99 : BitVec 32) : Prop :=
  (∀ (k0_h2 : k0_cond2 i = 1#1), ∀ a, (k0_off7 v99) a + S1x300.size a ≤ S50000x300.size a)
theorem k0_off7_inb : ∀ (i : grid0.Coords) (v99 : BitVec 32) (k0_hw2 : k0_chk2 i v99), ∀ (k0_h2 : k0_cond2 i = 1#1), ∀ a, (k0_off7 v99) a + S1x300.size a ≤ S50000x300.size a := fun i v99 k0_hw2 k0_h2 => k0_hw2 k0_h2

@[reducible] def k0_t3_loop : Scf.Loop 32 :=
  let c0_i32_2 : BitVec 32 := 0#32
  let c512_i32 : BitVec 32 := 512#32
  let v7 : BitVec 32 := Scalar.addi c0_i32_2 c512_i32
  let c1_i32 : BitVec 32 := 1#32
  ⟨c0_i32_2, v7, c1_i32⟩
def k0_off8 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off9 (i : grid0.Coords) (k0_t3 : Fin k0_t3_loop.trips) : Fin 3 → Nat :=
  let arg0 : BitVec 32 := BitVec.ofNat 32 (i 0).val
  let c2_i32 : BitVec 32 := 2#32
  let v0 : BitVec 32 := Scalar.remsi arg0 c2_i32
  let c0_i32_2 : BitVec 32 := 0#32
  let c1_i32 : BitVec 32 := 1#32
  let arg14 : BitVec 32 := Scf.iv c0_i32_2 c1_i32 k0_t3
  let c0_i32_53 : BitVec 32 := 0#32
  ![v0.toNat, arg14.toNat, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v8 : Index := Scalar.indexCast v0
  let c0 : Index := 0#32
  let c0_4 : Index := 0#32
  ![v8.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S3x300x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x512 : Shape := ⟨2, ![32, 512]⟩
abbrev S32x512x2 : Shape := ⟨3, ![32, 512, 2]⟩
abbrev S50000x300 : Shape := ⟨2, ![50000, 300]⟩
abbrev S512x1x3x300 : Shape := ⟨4, ![512, 1, 3, 300]⟩
abbrev S512 : Shape := ⟨1, ![512]⟩
abbrev S1536x1536 : Shape := ⟨2, ![1536, 1536]⟩
abbrev S1536 : Shape := ⟨1, ![1536]⟩
abbrev S8x1536 : Shape := ⟨2, ![8, 1536]⟩
abbrev S8 : Shape := ⟨1, ![8]⟩
abbrev S_ : Shape := ⟨0, ![]⟩
abbrev S32x512x1 : Shape := ⟨3, ![32, 512, 1]⟩
abbrev S32x512x300 : Shape := ⟨3, ![32, 512, 300]⟩
abbrev S32x514x300 : Shape := ⟨3, ![32, 514, 300]⟩
abbrev S512x1x1x300 : Shape := ⟨4, ![512, 1, 1, 300]⟩
abbrev S512x300 : Shape := ⟨2, ![512, 300]⟩
abbrev S512x32x512 : Shape := ⟨3, ![512, 32, 512]⟩
abbrev S32x512x512 : Shape := ⟨3, ![32, 512, 512]⟩
abbrev S1x512x1 : Shape := ⟨3, ![1, 512, 1]⟩
abbrev S32x512x513 : Shape := ⟨3, ![32, 512, 513]⟩
abbrev S32x1x512 : Shape := ⟨3, ![32, 1, 512]⟩
abbrev S1 : Shape := ⟨1, ![1]⟩
abbrev S1x1x1 : Shape := ⟨3, ![1, 1, 1]⟩
abbrev S32x1536x512 : Shape := ⟨3, ![32, 1536, 512]⟩
abbrev S32x512x1536 : Shape := ⟨3, ![32, 512, 1536]⟩
abbrev S16384x1536 : Shape := ⟨2, ![16384, 1536]⟩
abbrev S1x1536 : Shape := ⟨2, ![1, 1536]⟩
abbrev S1536x8 : Shape := ⟨2, ![1536, 8]⟩
abbrev S16384x8 : Shape := ⟨2, ![16384, 8]⟩
abbrev S1x8 : Shape := ⟨2, ![1, 8]⟩
abbrev S32 : Shape := ⟨1, ![32]⟩

abbrev nBuf : Space → Nat
  | .hbm => 183
  | .vmem => 0
  | .smem => 0
  | _ => 0

abbrev hbmTy0_0 (i : Nat) : BufTy := match i % 128 with
  | 0 => ⟨S32x512, .i32⟩
  | 1 => ⟨S32x512x2, .i32⟩
  | 2 => ⟨S50000x300, .f32⟩
  | 3 => ⟨S512x1x3x300, .f32⟩
  | 4 => ⟨S512, .f32⟩
  | 5 => ⟨S1536x1536, .f32⟩
  | 6 => ⟨S1536, .f32⟩
  | 7 => ⟨S8x1536, .f32⟩
  | 8 => ⟨S8, .f32⟩
  | 9 => ⟨S_, .i32⟩
  | 10 => ⟨S32x512, .i32⟩
  | 11 => ⟨S32x512, .i1⟩
  | 12 => ⟨S_, .i32⟩
  | 13 => ⟨S32x512, .i32⟩
  | 14 => ⟨S32x512, .i32⟩
  | 15 => ⟨S32x512, .i32⟩
  | 16 => ⟨S32x512x1, .i32⟩
  | 17 => ⟨S32x512x300, .f32⟩
  | 18 => ⟨S_, .i32⟩
  | 19 => ⟨S_, .f32⟩
  | 20 => ⟨S32x514x300, .f32⟩
  | 21 => ⟨S32x512x300, .f32⟩
  | 22 => ⟨S512x1x1x300, .f32⟩
  | 23 => ⟨S512x300, .f32⟩
  | 24 => ⟨S512x32x512, .f32⟩
  | 25 => ⟨S32x512x512, .f32⟩
  | 26 => ⟨S_, .f32⟩
  | 27 => ⟨S32x512x512, .f32⟩
  | 28 => ⟨S32x512x512, .f32⟩
  | 29 => ⟨S32x512x300, .f32⟩
  | 30 => ⟨S512x1x1x300, .f32⟩
  | 31 => ⟨S512x300, .f32⟩
  | 32 => ⟨S512x32x512, .f32⟩
  | 33 => ⟨S32x512x512, .f32⟩
  | 34 => ⟨S32x512x512, .f32⟩
  | 35 => ⟨S32x512x300, .f32⟩
  | 36 => ⟨S512x1x1x300, .f32⟩
  | 37 => ⟨S512x300, .f32⟩
  | 38 => ⟨S512x32x512, .f32⟩
  | 39 => ⟨S32x512x512, .f32⟩
  | 40 => ⟨S32x512x512, .f32⟩
  | 41 => ⟨S1x512x1, .f32⟩
  | 42 => ⟨S32x512x512, .f32⟩
  | 43 => ⟨S32x512x512, .f32⟩
  | 44 => ⟨S_, .f32⟩
  | 45 => ⟨S32x512x512, .f32⟩
  | 46 => ⟨S32x512x512, .f32⟩
  | 47 => ⟨S32x512x1, .i32⟩
  | 48 => ⟨S32x512, .i32⟩
  | 49 => ⟨S32x512x1, .i32⟩
  | 50 => ⟨S32x512, .i32⟩
  | 51 => ⟨S_, .f32⟩
  | 52 => ⟨S32x512x1, .f32⟩
  | 53 => ⟨S_, .f32⟩
  | 54 => ⟨S_, .f32⟩
  | 55 => ⟨S32x512x512, .f32⟩
  | 56 => ⟨S32x512x513, .f32⟩
  | 57 => ⟨S32x1x512, .i32⟩
  | 58 => ⟨S_, .i32⟩
  | 59 => ⟨S32x1x512, .i32⟩
  | 60 => ⟨S32x1x512, .i1⟩
  | 61 => ⟨S_, .i32⟩
  | 62 => ⟨S32x1x512, .i32⟩
  | 63 => ⟨S32x1x512, .i32⟩
  | 64 => ⟨S32x1x512, .i32⟩
  | 65 => ⟨S32x512x1, .i32⟩
  | 66 => ⟨S1, .i32⟩
  | 67 => ⟨S_, .i32⟩
  | 68 => ⟨S32x512x1, .i32⟩
  | 69 => ⟨S32x512x1, .i1⟩
  | 70 => ⟨S1x1x1, .i32⟩
  | 71 => ⟨S32x512x1, .i32⟩
  | 72 => ⟨S32x512x1, .i1⟩
  | 73 => ⟨S32x512x1, .i1⟩
  | 74 => ⟨S_, .i1⟩
  | 75 => ⟨S32x512, .i1⟩
  | 76 => ⟨S32x512x512, .f32⟩
  | 77 => ⟨S32x512x512, .i1⟩
  | 78 => ⟨S_, .f32⟩
  | 79 => ⟨S32x512x512, .f32⟩
  | 80 => ⟨S32x512x512, .f32⟩
  | 81 => ⟨S_, .i32⟩
  | 82 => ⟨S32x512, .i32⟩
  | 83 => ⟨S32x512, .i32⟩
  | 84 => ⟨S32x1x512, .i32⟩
  | 85 => ⟨S_, .i32⟩
  | 86 => ⟨S32x1x512, .i32⟩
  | 87 => ⟨S32x1x512, .i1⟩
  | 88 => ⟨S_, .i32⟩
  | 89 => ⟨S32x1x512, .i32⟩
  | 90 => ⟨S32x1x512, .i32⟩
  | 91 => ⟨S32x1x512, .i32⟩
  | 92 => ⟨S32x512x1, .i32⟩
  | 93 => ⟨S1, .i32⟩
  | 94 => ⟨S_, .i32⟩
  | 95 => ⟨S32x512x1, .i32⟩
  | 96 => ⟨S32x512x1, .i1⟩
  | 97 => ⟨S1x1x1, .i32⟩
  | 98 => ⟨S32x512x1, .i32⟩
  | 99 => ⟨S32x512x1, .i1⟩
  | 100 => ⟨S32x512x1, .i1⟩
  | 101 => ⟨S_, .i1⟩
  | 102 => ⟨S32x512, .i1⟩
  | 103 => ⟨S32x512x512, .f32⟩
  | 104 => ⟨S32x512x512, .i1⟩
  | 105 => ⟨S_, .f32⟩
  | 106 => ⟨S32x512x512, .f32⟩
  | 107 => ⟨S32x512x512, .f32⟩
  | 108 => ⟨S32x512, .i32⟩
  | 109 => ⟨S32x512, .f32⟩
  | 110 => ⟨S32x1x512, .f32⟩
  | 111 => ⟨S32x1x512, .i32⟩
  | 112 => ⟨S_, .i32⟩
  | 113 => ⟨S32x1x512, .i32⟩
  | 114 => ⟨S32x1x512, .i1⟩
  | 115 => ⟨S_, .i32⟩
  | 116 => ⟨S32x1x512, .i32⟩
  | 117 => ⟨S32x1x512, .i32⟩
  | 118 => ⟨S32x1x512, .i32⟩
  | 119 => ⟨S32x512x1, .i32⟩
  | 120 => ⟨S1, .i32⟩
  | 121 => ⟨S_, .i32⟩
  | 122 => ⟨S32x512x1, .i32⟩
  | 123 => ⟨S32x512x1, .i1⟩
  | 124 => ⟨S1x1x1, .i32⟩
  | 125 => ⟨S32x512x1, .i32⟩
  | 126 => ⟨S32x512x1, .i1⟩
  | 127 => ⟨S32x512x1, .i1⟩
  | _ => ⟨S32x512, .i32⟩

abbrev hbmTy0_1 (i : Nat) : BufTy := match i % 128 with
  | 0 => ⟨S_, .i1⟩
  | 1 => ⟨S32x512, .i1⟩
  | 2 => ⟨S32x512x512, .f32⟩
  | 3 => ⟨S32x512x512, .i1⟩
  | 4 => ⟨S_, .f32⟩
  | 5 => ⟨S32x512x512, .f32⟩
  | 6 => ⟨S32x512x512, .f32⟩
  | 7 => ⟨S32x1x512, .i32⟩
  | 8 => ⟨S_, .i32⟩
  | 9 => ⟨S32x1x512, .i32⟩
  | 10 => ⟨S32x1x512, .i1⟩
  | 11 => ⟨S_, .i32⟩
  | 12 => ⟨S32x1x512, .i32⟩
  | 13 => ⟨S32x1x512, .i32⟩
  | 14 => ⟨S32x1x512, .i32⟩
  | 15 => ⟨S32x512x1, .i32⟩
  | 16 => ⟨S1, .i32⟩
  | 17 => ⟨S_, .i32⟩
  | 18 => ⟨S32x512x1, .i32⟩
  | 19 => ⟨S32x512x1, .i1⟩
  | 20 => ⟨S1x1x1, .i32⟩
  | 21 => ⟨S32x512x1, .i32⟩
  | 22 => ⟨S32x512x1, .i1⟩
  | 23 => ⟨S32x512x1, .i1⟩
  | 24 => ⟨S_, .i1⟩
  | 25 => ⟨S32x512, .i1⟩
  | 26 => ⟨S32x512x512, .f32⟩
  | 27 => ⟨S32x512x512, .i1⟩
  | 28 => ⟨S_, .f32⟩
  | 29 => ⟨S32x512x512, .f32⟩
  | 30 => ⟨S32x512x512, .f32⟩
  | 31 => ⟨S32x512x512, .f32⟩
  | 32 => ⟨S32x512x512, .f32⟩
  | 33 => ⟨S32x512x512, .f32⟩
  | 34 => ⟨S32x1536x512, .f32⟩
  | 35 => ⟨S32x512x1536, .f32⟩
  | 36 => ⟨S16384x1536, .f32⟩
  | 37 => ⟨S1536x1536, .f32⟩
  | 38 => ⟨S16384x1536, .f32⟩
  | 39 => ⟨S1x1536, .f32⟩
  | 40 => ⟨S16384x1536, .f32⟩
  | 41 => ⟨S16384x1536, .f32⟩
  | 42 => ⟨S_, .f32⟩
  | 43 => ⟨S16384x1536, .f32⟩
  | 44 => ⟨S16384x1536, .f32⟩
  | 45 => ⟨S1536x8, .f32⟩
  | 46 => ⟨S16384x8, .f32⟩
  | 47 => ⟨S1x8, .f32⟩
  | 48 => ⟨S16384x8, .f32⟩
  | 49 => ⟨S16384x8, .f32⟩
  | 50 => ⟨S_, .i32⟩
  | 51 => ⟨S32, .i32⟩
  | 52 => ⟨S_, .i32⟩
  | 53 => ⟨S_, .i32⟩
  | 54 => ⟨S32, .i32⟩
  | _ => ⟨S32x512, .i32⟩

abbrev hbmTy (i : Nat) : BufTy := match i / 128 with
  | 0 => hbmTy0_0 i
  | 1 => hbmTy0_1 i
  | _ => ⟨S32x512, .i32⟩

abbrev bufTy : (tb : Table) → Fin (tcTables nBuf tb) → BufTy
  | .hbm, ⟨i, _⟩ => hbmTy i
  | _, _ => ⟨S32x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call1_cst : Ref sig .tc := ⟨.hbm, 44, rfl⟩
abbrev main_call1_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_call2_call0_cst : Ref sig .tc := ⟨.hbm, 53, rfl⟩
abbrev main_call2_call0_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_call3_cst : Ref sig .tc := ⟨.hbm, 78, rfl⟩
abbrev main_call3_v15 : Ref sig .tc := ⟨.hbm, 79, rfl⟩
abbrev main_v39 : Ref sig .tc := ⟨.hbm, 80, rfl⟩
abbrev main_c_3 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_call4_c : Ref sig .tc := ⟨.hbm, 85, rfl⟩
abbrev main_call4_v0 : Ref sig .tc := ⟨.hbm, 86, rfl⟩
abbrev main_call4_v1 : Ref sig .tc := ⟨.hbm, 87, rfl⟩
abbrev main_call4_c_0 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_c_1 : Ref sig .tc := ⟨.hbm, 93, rfl⟩
abbrev main_call4_c_2 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_c_3 : Ref sig .tc := ⟨.hbm, 101, rfl⟩
abbrev main_call4_v12 : Ref sig .tc := ⟨.hbm, 102, rfl⟩
abbrev main_call4_v13 : Ref sig .tc := ⟨.hbm, 103, rfl⟩
abbrev main_call4_v14 : Ref sig .tc := ⟨.hbm, 104, rfl⟩
abbrev main_call4_cst : Ref sig .tc := ⟨.hbm, 105, rfl⟩
abbrev main_call4_v15 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_call5_c : Ref sig .tc := ⟨.hbm, 112, rfl⟩
abbrev main_call5_v0 : Ref sig .tc := ⟨.hbm, 113, rfl⟩
abbrev main_call5_v1 : Ref sig .tc := ⟨.hbm, 114, rfl⟩
abbrev main_call5_c_0 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_c_1 : Ref sig .tc := ⟨.hbm, 120, rfl⟩
abbrev main_call5_c_2 : Ref sig .tc := ⟨.hbm, 121, rfl⟩
abbrev main_call5_v6 : Ref sig .tc := ⟨.hbm, 122, rfl⟩
abbrev main_call5_v7 : Ref sig .tc := ⟨.hbm, 123, rfl⟩
abbrev main_call5_v8 : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_3 : Ref sig .tc := ⟨.hbm, 128, rfl⟩
abbrev main_call5_v12 : Ref sig .tc := ⟨.hbm, 129, rfl⟩
abbrev main_call5_v13 : Ref sig .tc := ⟨.hbm, 130, rfl⟩
abbrev main_call5_v14 : Ref sig .tc := ⟨.hbm, 131, rfl⟩
abbrev main_call5_cst : Ref sig .tc := ⟨.hbm, 132, rfl⟩
abbrev main_call5_v15 : Ref sig .tc := ⟨.hbm, 133, rfl⟩
abbrev main_v48 : Ref sig .tc := ⟨.hbm, 134, rfl⟩
abbrev main_v49 : Ref sig .tc := ⟨.hbm, 135, rfl⟩
abbrev main_call6_c : Ref sig .tc := ⟨.hbm, 136, rfl⟩
abbrev main_call6_v0 : Ref sig .tc := ⟨.hbm, 137, rfl⟩
abbrev main_call6_v1 : Ref sig .tc := ⟨.hbm, 138, rfl⟩
abbrev main_call6_c_0 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_call6_v5 : Ref sig .tc := ⟨.hbm, 143, rfl⟩
abbrev main_call6_c_1 : Ref sig .tc := ⟨.hbm, 144, rfl⟩
abbrev main_call6_c_2 : Ref sig .tc := ⟨.hbm, 145, rfl⟩
abbrev main_call6_v6 : Ref sig .tc := ⟨.hbm, 146, rfl⟩
abbrev main_call6_v7 : Ref sig .tc := ⟨.hbm, 147, rfl⟩
abbrev main_call6_v8 : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_call6_c_3 : Ref sig .tc := ⟨.hbm, 152, rfl⟩
abbrev main_call6_v12 : Ref sig .tc := ⟨.hbm, 153, rfl⟩
abbrev main_call6_v13 : Ref sig .tc := ⟨.hbm, 154, rfl⟩
abbrev main_call6_v14 : Ref sig .tc := ⟨.hbm, 155, rfl⟩
abbrev main_call6_cst : Ref sig .tc := ⟨.hbm, 156, rfl⟩
abbrev main_call6_v15 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_call7_cst : Ref sig .tc := ⟨.hbm, 170, rfl⟩
abbrev main_call7_v0 : Ref sig .tc := ⟨.hbm, 171, rfl⟩
abbrev main_v62 : Ref sig .tc := ⟨.hbm, 172, rfl⟩
abbrev main_v63 : Ref sig .tc := ⟨.hbm, 173, rfl⟩
abbrev main_v64 : Ref sig .tc := ⟨.hbm, 174, rfl⟩
abbrev main_v65 : Ref sig .tc := ⟨.hbm, 175, rfl⟩
abbrev main_v66 : Ref sig .tc := ⟨.hbm, 176, rfl⟩
abbrev main_v67 : Ref sig .tc := ⟨.hbm, 177, rfl⟩
abbrev main_c_4 : Ref sig .tc := ⟨.hbm, 178, rfl⟩
abbrev main_v68 : Ref sig .tc := ⟨.hbm, 179, rfl⟩
abbrev main_call8_call0_c : Ref sig .tc := ⟨.hbm, 180, rfl⟩
abbrev main_call8_call0_v0 : Ref sig .tc := ⟨.hbm, 181, rfl⟩
abbrev main_v69 : Ref sig .tc := ⟨.hbm, 182, rfl⟩

abbrev nD : Nat := 1
abbrev τ : Topo := Topo.v7x

variable {F : FTy → Type} [FloatOps F]
-- ==== Proof.KI.Setup.lean ====
/- The launch of the gather kernel: what the host lines before the region leave in each buffer, the table of
   words, the blocks of the windows, and the invariant the launch hands the body. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Batch
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (Pipeline.UD sig nD τ) ℕ

variable (m : (ℓ : Loc nD τ sig) → Buf (Elt F) ℓ)

/-! ## Before the region -/

/-- Core `c`'s memory after the host lines before the region. -/
abbrev V0 (c : Dev nD) : Valuation τ sig (Elt F) := StableHlo.after (List.flatten [hostOps0]) (fun b => m (c, b))

/-- What each TensorCore buffer holds when the region is entered. -/
abbrev V (c : Dev nD) (b : Ref sig .tc) : Buf (Elt F) ((c : Thread nD τ).loc b) := V0 m c (Proc.devRef .tc b)

/-- No host line before the region takes fresh storage. -/
theorem fresh_before : (hostOps0 : List (HloOp τ sig (Elt F))).Forall fun op => op.fresh = ∅ := by
  simp only [List.Forall]; repeat' constructor

/-- The program is the host lines before, the region, and the two stretches of host lines after. -/
theorem region_of_main (𝒱₀ : Variants) : Pipeline.HMainPK (Ix := Unit) (Name := ℕ) (U := Pipeline.UD sig nD τ) (Lvl := ℕ) pcfgs 0 defs₀ 𝒱₀ m
    (main (F := F)) (V m) (fun _ => Pipeline.chain ([hostOps1, hostOps1_1].map StableHlo.seq)) :=
  Pipeline.hmainP_around pcfgs 0 defs₀ 𝒱₀ m main [hostOps0] [hostOps1, hostOps1_1]
    (by simp only [List.Forall]; exact hostOps0_sub) (by simp only [List.Forall]; exact fresh_before) main_chain

/-- The host lines before the region leave `main_arg0` alone. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The host lines before the region leave `main_arg1` alone. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The host lines before the region leave `main_arg2` alone. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The host lines before the region leave `main_arg3` alone. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The host lines before the region leave `main_arg4` alone. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The host lines before the region leave `main_arg5` alone. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The host lines before the region leave `main_arg6` alone. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The host lines before the region leave `main_arg7` alone. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The host lines before the region leave `main_arg8` alone. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The table of words -/

/-- The contents of the prefetched table at the region's entry. -/
def tbl : pre0.Contents (Elt F) := fun j => V m (0 : Dev nD) (pre0.ref j)

/-- There is one device, so the table is the same on each. -/
theorem V_pre (c : Dev nD) (j : Fin 1) : V m c (pre0.ref j) = tbl m j := by
  obtain rfl : c = 0 := Subsingleton.elim _ _; rfl

/-- No index map reads the table: its contents are always admissible. -/
abbrev adm : (pcfg0 (F := F)).Adm := ⟨tbl m, trivial⟩

/-- The pipeline at the table's contents. -/
abbrev cfgM : Pipeline.Cfg sig Λ₀ := cfg0 (adm m)

/-- The table as the body is handed it. -/
abbrev tbM : Memref sig .tc .smem S16384 .i32 := Memref.whole main_v0
/-- The embedding matrix as the body is handed it, left in HBM. -/
abbrev hbM : Memref sig .tc .hbm S50000x300 .f32 := Memref.whole main_arg2
/-- The double-buffered scratch of gathered rows. -/
abbrev scM : Memref sig .tc .vmem S2x512x300 .f32 := Memref.whole cc0_scratch0

/-- The contents types of the three. -/
abbrev TbBuf (c : Dev nD) : Type := Buf (Elt F) (tbM.view.loc (c : Thread nD τ))
abbrev HbBuf (c : Dev nD) : Type := Buf (Elt F) (hbM.view.loc (c : Thread nD τ))
abbrev ScBuf (c : Dev nD) : Type := Buf (Elt F) (scM.view.loc (c : Thread nD τ))

/-- The body's half of the table. -/
abbrev tbPt (c : Dev nD) (f : TbBuf (F := F) c) : sProp 𝕄 := tbM.view.loc (c : Thread nD τ) ↦{fullShare.right} f

/-- What the launch hands the body of the tables, spelled out. -/
theorem PhiT_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

/-! ## The kernel's own cells, and the matrix left in HBM -/

/-- The two DMA cells of the double buffer. -/
abbrev osem : Fin 2 → SemLoc sig := fun j => (![SemLoc.dma 12, SemLoc.dma 13] : Fin 2 → SemLoc sig) j
theorem ownSemFacts : Pipeline.OwnSemFacts spec0 osem := by decide

/-- The two cells at zero, spelled out. -/
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 12) 0 ∗ semVal ((c : Thread nD τ), SemLoc.dma 13) 0) := by
  rw [Pipeline.ownSems0_eq_of_list c osem [0, 1] (by decide) (by decide)]; rfl

/-- The one operand the body reads from HBM itself. -/
def HB : Finset (Ref sig .tc) := {main_arg2}
theorem HB_sub : HB ⊆ Pipeline.restRefsP sig pre0 spec0 := by decide

/-- It is held whole. -/
theorem hbmPts_eq (c : Dev nD) :
    (bigSep HB (fun b => ((c : Thread nD τ).loc b) ↦{fullShare} V m c b) : sProp 𝕄)
      = iprop(hbM.view.loc (c : Thread nD τ) ↦{fullShare} V m c main_arg2) := by
  rw [BI.bigSep_eq_bigSepL_of_eq [main_arg2] (by decide) (by decide)]; rfl

/-- What the launch hands the body besides the windows: the scratch at some contents, the generator register, the
    two cells at zero, the matrix. -/
theorem PhiD_eq (c : Dev nD) :
    (Pipeline.ΦD osem spec0 HB (V m) c : sProp 𝕄)
      = iprop((∃ f : ScBuf (F := F) c, scM.view.loc (c : Thread nD τ) ↦{fullShare} f) ∗ (∃ r, prngReg c r)
          ∗ (semVal ((c : Thread nD τ), SemLoc.dma 12) 0 ∗ semVal ((c : Thread nD τ), SemLoc.dma 13) 0)
          ∗ (hbM.view.loc (c : Thread nD τ) ↦{fullShare} V m c main_arg2)) := by
  rw [Pipeline.ΦD_eq, scopedRest0_eq, ownSems_eq, hbmPts_eq]; try rfl

/-! ## The windows' blocks -/

/-- Window `w`'s block at point `t` of the array the region finds. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Input window 0 holds its block at every point, whether fetched there or carried over. -/
theorem before0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 holds its block at every point, whether fetched there or carried over. -/
theorem before1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 holds its block at every point, whether fetched there or carried over. -/
theorem before2_of {c : Dev nD} (dat : Dat τ (Elt F) Unit ℕ (Pipeline.UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 holds its block at every point, whether fetched there or carried over. -/
theorem before3_of {c : Dev nD} (dat : Dat τ (Elt F) Unit ℕ (Pipeline.UD sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 holds its block at every point, whether fetched there or carried over. -/
theorem before4_of {c : Dev nD} (dat : Dat τ (Elt F) Unit ℕ (Pipeline.UD sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 holds its block at every point, whether fetched there or carried over. -/
theorem before5_of {c : Dev nD} (dat : Dat τ (Elt F) Unit ℕ (Pipeline.UD sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6 holds its block at every point, whether fetched there or carried over. -/
theorem before6_of {c : Dev nD} (dat : Dat τ (Elt F) Unit ℕ (Pipeline.UD sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7 holds its block at every point, whether fetched there or carried over. -/
theorem before7_of {c : Dev nD} (dat : Dat τ (Elt F) Unit ℕ (Pipeline.UD sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs -/

/-- Window 0's staging memref at point `t`, and that it is whole. -/
abbrev ms0 (t : Fin (cfgM m).N) : Memref sig .tc .vmem S3x300x512 .f32 := spec0_0.stage ((cfgM m).slots t 0)
abbrev hs0 (t : Fin (cfgM m).N) : (ms0 m t).IsWhole := hstage0_0 (((cfgM m).slots t 0).cast nbuf0_0)

/-- Window 1's staging memref at point `t`, and that it is whole. -/
abbrev ms1 (t : Fin (cfgM m).N) : Memref sig .tc .vmem S1x512 .f32 := spec0_1.stage ((cfgM m).slots t 1)
abbrev hs1 (t : Fin (cfgM m).N) : (ms1 m t).IsWhole := hstage0_1 (((cfgM m).slots t 1).cast nbuf0_1)

/-- Window 2's staging memref at point `t`, and that it is whole. -/
abbrev ms2 (t : Fin (cfgM m).N) : Memref sig .tc .vmem S1x1x512 .i32 := spec0_2.stage ((cfgM m).slots t 2)
abbrev hs2 (t : Fin (cfgM m).N) : (ms2 m t).IsWhole := hstage0_2 (((cfgM m).slots t 2).cast nbuf0_2)

/-- Window 3's staging memref at point `t`, and that it is whole. -/
abbrev ms3 (t : Fin (cfgM m).N) : Memref sig .tc .vmem S1x1x512 .i32 := spec0_3.stage ((cfgM m).slots t 3)
abbrev hs3 (t : Fin (cfgM m).N) : (ms3 m t).IsWhole := hstage0_3 (((cfgM m).slots t 3).cast nbuf0_3)

/-- Window 4's staging memref at point `t`, and that it is whole. -/
abbrev ms4 (t : Fin (cfgM m).N) : Memref sig .tc .vmem S1536x1536 .f32 := spec0_4.stage ((cfgM m).slots t 4)
abbrev hs4 (t : Fin (cfgM m).N) : (ms4 m t).IsWhole := hstage0_4 (((cfgM m).slots t 4).cast nbuf0_4)

/-- Window 5's staging memref at point `t`, and that it is whole. -/
abbrev ms5 (t : Fin (cfgM m).N) : Memref sig .tc .vmem S1x1536 .f32 := spec0_5.stage ((cfgM m).slots t 5)
abbrev hs5 (t : Fin (cfgM m).N) : (ms5 m t).IsWhole := hstage0_5 (((cfgM m).slots t 5).cast nbuf0_5)

/-- Window 6's staging memref at point `t`, and that it is whole. -/
abbrev ms6 (t : Fin (cfgM m).N) : Memref sig .tc .vmem S1536x8 .f32 := spec0_6.stage ((cfgM m).slots t 6)
abbrev hs6 (t : Fin (cfgM m).N) : (ms6 m t).IsWhole := hstage0_6 (((cfgM m).slots t 6).cast nbuf0_6)

/-- Window 7's staging memref at point `t`, and that it is whole. -/
abbrev ms7 (t : Fin (cfgM m).N) : Memref sig .tc .vmem S1x8 .f32 := spec0_7.stage ((cfgM m).slots t 7)
abbrev hs7 (t : Fin (cfgM m).N) : (ms7 m t).IsWhole := hstage0_7 (((cfgM m).slots t 7).cast nbuf0_7)

/-- Window 8's staging memref at point `t`, and that it is whole. -/
abbrev ms8 (t : Fin (cfgM m).N) : Memref sig .tc .vmem S1x512x8 .f32 := spec0_8.stage ((cfgM m).slots t 8)
abbrev hs8 (t : Fin (cfgM m).N) : (ms8 m t).IsWhole := hstage0_8 (((cfgM m).slots t 8).cast nbuf0_8)

/-- The body as the pipeline calls it at point `t`. -/
abbrev bodyAt (t : Fin (cfgM m).N) : Prog (TpuEff nD τ sig (Elt F) Λ₀ .tc) PUnit :=
  cc0_toicnn_fused (grid0.coords t) tbM (Memref.isWhole_whole _) hbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) scM (Memref.isWhole_whole _) cc0_scratch1

end Cert.KernelIdeal.Hand

end
-- ==== Proof.KI.Rows.lean ====
/- The rows the kernel gathers: the matrix row a word names, the scratch row it lands in, the elements of each, and what
   the scratch holds once the 512 rows of a point have landed. -/
module

public import proofs.«01_k».proof.Proof.KI.Setup
public import Idealize.ShloMosaic.Lib.ValueIdxCore
public import Idealize.ShloMosaic.Lib.Pointwise.Reshape

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Words -/

/-- The table's contents, as words. -/
abbrev Words : Type := S16384.Idx → BitVec 32

/-- Word `s` of point `b`. -/
def word (T : Words) (b : Fin 32) (s : Fin 512) : BitVec 32 :=
  T (ix1 (n0 := 16384) ⟨512 * b.val + s.val, by have := b.isLt; have := s.isLt; omega⟩)

/-- Every word names a row of the matrix. -/
def InTable (T : Words) : Prop := ∀ n, (T n).toNat < 50000

/-- A word of the table names a row of the matrix. -/
theorem word_lt {T : Words} (hT : InTable T) (b : Fin 32) (s : Fin 512) : (word T b s).toNat < 50000 := by unfold word; exact hT _

/-- What the scalar load of word `512 b + s` reads. -/
theorem word_read (c : Dev nD) (T : TbBuf (F := F) c) (off : Fin 1 → ℕ) (h : ∀ a, off a + S1.size a ≤ S16384.size a) (b : Fin 32) (s : Fin 512)
    (ho : off = ![512 * b.val + s.val]) (x : (Rect.unit (s := S16384) off S1.size h).shape.Idx) :
    (tbM.access (Rect.unit (s := S16384) off S1.size h)).read (Elt F) T x = word T b s := by
  subst ho
  unfold word
  show T _ = T _
  refine congrArg T ?_
  funext a
  fin_cases a
  refine Fin.ext ?_
  have hx : (x 0).val < 1 := (x 0).isLt
  show 512 * b.val + s.val + 1 * (x 0).val = 512 * b.val + s.val
  omega

/-! ## Rows -/

theorem src_inb (w : BitVec 32) (h : w.toNat < 50000) : ∀ a, k0_off3 w a + S1x300.size a ≤ S50000x300.size a := by
  intro a; fin_cases a
  · show w.toNat + 1 ≤ 50000; omega
  · show 0 + 300 ≤ 300; omega

/-- The matrix row a word names, as the transfers read it. -/
def srcRow (w : BitVec 32) (h : ∀ a, k0_off3 w a + S1x300.size a ≤ S50000x300.size a) : Memref sig .tc .hbm S300 .f32 :=
  (hbM.slice (Rect.unit (s := S50000x300) (k0_off3 w) S1x300.size h) (fun _ => rfl)).squeeze S300 squeezes_S1x300_S300

theorem dst_inb (p : Fin 2) (s : Fin 512) : ∀ a, (![p.val, s.val, 0] : Fin 3 → ℕ) a + S1x1x300.size a ≤ S2x512x300.size a := by
  have := p.isLt; have := s.isLt
  intro a; fin_cases a
  · show p.val + 1 ≤ 2; omega
  · show s.val + 1 ≤ 512; omega
  · show 0 + 300 ≤ 300; omega

/-- Row `s` of scratch slot `p`, as the transfers write it. -/
def dstRow (p : Fin 2) (s : Fin 512) : Memref sig .tc .vmem S300 .f32 :=
  (scM.slice (Rect.unit (s := S2x512x300) ![p.val, s.val, 0] S1x1x300.size (dst_inb p s)) (fun _ => rfl)).squeeze S300 squeezes_S1x1x300_S300

/-- A scratch row at any spelling of its offsets. -/
theorem dstRow_eq (off : Fin 3 → ℕ) (h : ∀ a, off a + S1x1x300.size a ≤ S2x512x300.size a) (p : Fin 2) (s : Fin 512) (ho : off = ![p.val, s.val, 0]) :
    (scM.slice (Rect.unit (s := S2x512x300) off S1x1x300.size h) (fun _ => rfl)).squeeze S300 squeezes_S1x1x300_S300 = dstRow p s := by
  subst ho; rfl

/-- The cell of slot `p`. -/
abbrev cell (p : Fin 2) : DmaSem sig := ⟨12 + p.val, by have := p.isLt; show _ < 14; omega⟩

/-- The cell at any spelling of its index. -/
theorem cell_eq (off : Fin 1 → ℕ) (h : ∀ a, off a + S1.size a ≤ S2.size a) (p : Fin 2) (ho : off = ![p.val]) :
    ((cc0_scratch1.slice (Rect.unit (s := S2) off S1.size h)).squeeze S_ squeezes_S1_S_).sem = cell p := by
  subst ho
  refine Fin.ext ?_
  fin_cases p
  · exact (by decide : (((cc0_scratch1.slice (Rect.unit (s := S2) ![0] S1.size inb_S2_S1_0)).squeeze S_ squeezes_S1_S_).sem).val = 12)
  · exact (by decide : (((cc0_scratch1.slice (Rect.unit (s := S2) ![1] S1.size (by decide))).squeeze S_ squeezes_S1_S_).sem).val = 13)

/-- Row `s` of slot `p` as a set of scratch elements. -/
abbrev rowSet (p : Fin 2) (s : Fin 512) : Finset S2x512x300.Idx :=
  (Rect.unit (s := S2x512x300) ![p.val, s.val, 0] S1x1x300.size (dst_inb p s)).set

theorem dstRow_set (p : Fin 2) (s : Fin 512) : (dstRow p s).view.set = rowSet p s := by
  unfold dstRow; exact (View.set_reshape _ _).trans (View.set_slice_whole _ _)

theorem mem_rowSet (p : Fin 2) (s : Fin 512) (y : S2x512x300.Idx) : y ∈ rowSet p s ↔ (y 0).val = p.val ∧ (y 1).val = s.val := by
  rw [Rect.mem_set_unit]
  have h2 : (y 2).val < 300 := (y 2).isLt
  constructor
  · intro H
    have a0 : p.val ≤ (y 0).val ∧ (y 0).val < p.val + 1 := H 0
    have a1 : s.val ≤ (y 1).val ∧ (y 1).val < s.val + 1 := H 1
    omega
  · rintro ⟨e0, e1⟩ a; fin_cases a
    · show p.val ≤ (y 0).val ∧ (y 0).val < p.val + 1; omega
    · show s.val ≤ (y 1).val ∧ (y 1).val < s.val + 1; omega
    · show 0 ≤ (y 2).val ∧ (y 2).val < 0 + 300; omega

/-- Slot `p` as a set of scratch elements. -/
def slotSet (p : Fin 2) : Finset S2x512x300.Idx := Finset.univ.filter fun y => (y 0).val = p.val

theorem mem_slotSet (p : Fin 2) (y : S2x512x300.Idx) : y ∈ slotSet p ↔ (y 0).val = p.val := by
  unfold slotSet; simp

theorem rowSet_disjoint (p : Fin 2) : ∀ s s', s ≠ s' → Disjoint (rowSet p s) (rowSet p s') := fun s s' hne => by
  rw [Finset.disjoint_left]; intro y hy hy'; rw [mem_rowSet] at hy hy'; exact hne (Fin.ext (by omega))

theorem rowSet_cover (p : Fin 2) : Finset.univ.biUnion (rowSet p) = slotSet p := by
  ext y; simp only [Finset.mem_biUnion, Finset.mem_univ, true_and, mem_slotSet]
  constructor
  · rintro ⟨s, hs⟩; exact ((mem_rowSet p s y).mp hs).1
  · intro h; exact ⟨y 1, (mem_rowSet p _ y).mpr ⟨h, rfl⟩⟩

theorem slotSet_disjoint : ∀ p p', p ≠ p' → Disjoint (slotSet p) (slotSet p') := fun p p' hne => by
  rw [Finset.disjoint_left]; intro y hy hy'; rw [mem_slotSet] at hy hy'; exact hne (Fin.ext (by omega))

theorem slotSet_cover : Finset.univ.biUnion slotSet = (Finset.univ : Finset S2x512x300.Idx) := by
  ext y; simp only [Finset.mem_biUnion, Finset.mem_univ, true_and, iff_true]; exact ⟨y 0, (mem_slotSet _ _).mpr rfl⟩

/-- Where element `x` of a scratch row sits in the scratch. -/
theorem dstRow_emb (p : Fin 2) (s : Fin 512) (x : S300.Idx) : (dstRow p s).view.emb x = ix3 (n0 := 2) (n1 := 512) (n2 := 300) p s (x 0) := by
  have hr : Shape.reshapeEquiv (s := S1x1x300) (s' := S300) squeezes_S1x1x300_S300.numel_eq x = ix3 (n0 := 1) (n1 := 1) (n2 := 300) 0 0 (x 0) := by
    refine Shape.reshapeEquiv_eq_of_rowMajor _ ?_
    show (Shape.rowMajorPi ![1, 1, 300] _).val = (Shape.rowMajorPi ![300] x).val
    simp [Shape.rowMajorPi_succ_val, Shape.rowMajorPi_fin0_val, Fin.prod_univ_succ]
  show (Rect.unit (s := S2x512x300) ![p.val, s.val, 0] S1x1x300.size (dst_inb p s)).emb (Shape.reshapeEquiv (s := S1x1x300) (s' := S300) squeezes_S1x1x300_S300.numel_eq x) = _
  rw [hr]
  funext a; fin_cases a
  · exact Fin.ext (by show p.val + 1 * 0 = p.val; omega)
  · exact Fin.ext (by show s.val + 1 * 0 = s.val; omega)
  · exact Fin.ext (by show 0 + 1 * (x 0).val = (x 0).val; omega)

/-- Where element `x` of the matrix row a word names sits in the matrix. -/
theorem srcRow_emb (w : BitVec 32) (h) (hw : w.toNat < 50000) (x : S300.Idx) :
    (srcRow w h).view.emb x = ix2 (n0 := 50000) (n1 := 300) ⟨w.toNat, hw⟩ (x 0) := by
  have hr : Shape.reshapeEquiv (s := S1x300) (s' := S300) squeezes_S1x300_S300.numel_eq x = ix2 (n0 := 1) (n1 := 300) 0 (x 0) := by
    refine Shape.reshapeEquiv_eq_of_rowMajor _ ?_
    show (Shape.rowMajorPi ![1, 300] _).val = (Shape.rowMajorPi ![300] x).val
    simp [Shape.rowMajorPi_succ_val, Shape.rowMajorPi_fin0_val, Fin.prod_univ_succ]
  show (Rect.unit (s := S50000x300) (k0_off3 w) S1x300.size h).emb (Shape.reshapeEquiv (s := S1x300) (s' := S300) squeezes_S1x300_S300.numel_eq x) = _
  rw [hr]
  funext a; fin_cases a
  · exact Fin.ext (by show w.toNat + 1 * 0 = w.toNat; omega)
  · exact Fin.ext (by show 0 + 1 * (x 0).val = (x 0).val; omega)

/-! ## What has landed -/

/-- The scratch once point `b`'s rows have landed, the same at both slots: element `(p, s, e)` is element `e` of the
    matrix row that word `s` of the point names. -/
def gath {T : Words} (hT : InTable T) (Z : S50000x300.Idx → Elt F .f32) (b : Fin 32) : S2x512x300.Idx → Elt F .f32 := fun y =>
  Z (ix2 (n0 := 50000) (n1 := 300) ⟨(word T b (y 1)).toNat, word_lt hT b (y 1)⟩ (y 2))

/-- A landed transfer leaves its row of the scratch at the gathered contents. -/
theorem landed_row (c : Dev nD) {T : Words} (hT : InTable T) (Z : S50000x300.Idx → Elt F .f32) (p : Fin 2) (b : Fin 32) (s : Fin 512) (h)
    (f : ScBuf (F := F) c) : ∀ y ∈ rowSet p s,
      (dstRow p s).view.write (Elt F) f ((srcRow (word T b s) h).view.read (Elt F) Z) Finset.univ y = gath hT Z b y := by
  intro y hy
  rw [← dstRow_set] at hy
  obtain ⟨x, -, rfl⟩ := Finset.mem_map.mp hy
  refine (View.write_emb_of_mem (v := (dstRow p s).view) _ _ (Finset.mem_univ x)).trans ?_
  exact (congrArg Z (srcRow_emb _ h (word_lt hT b s) x)).trans (congrArg (gath hT Z b) (dstRow_emb p s x)).symm

end Cert.KernelIdeal.Hand

end
-- ==== Proof.KI.Loops.lean ====
/- The two loops that start the transfers of a point's rows and the loop that waits for them, one trip of each at a
   symbolic trip number and then whole. -/
module

public import proofs.«01_k».proof.Proof.KI.Rows

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The pieces a slot's transfers move -/

section Pieces

variable (c : Dev nD) (Z : HbBuf (F := F) c) (p : Fin 2)

/-- The read token of the transfer into row `s` of slot `p`. -/
abbrev tok (p : Fin 2) (s : ℕ) : PosShare TreeShare := Transfers.shareTokN fullShare (512 * p.val + s)

/-- Row `s` of slot `p`, free to be written. -/
def rowFree (s : Fin 512) : sProp 𝕄 := iprop(∃ f : ScBuf (F := F) c, scM.view.loc (c : Thread nD τ) ↦[rowSet p s]{fullShare} f)

/-- The whole matrix under the token of row `s`. -/
def rowTok (s : Fin 512) : sProp 𝕄 := hbM.view.loc (c : Thread nD τ) ↦[Finset.univ]{tok p s.val} Z

variable {T : Words} (hT : InTable T) (b : Fin 32)

/-- The elements of the matrix row that word `s` of point `b` names. -/
abbrev srcSet (s : Fin 512) : Finset S50000x300.Idx := (srcRow (word T b s) (src_inb _ (word_lt hT b s))).view.set

/-- What the token of row `s` keeps while its transfer reads one row of the matrix. -/
def rowLeft (s : Fin 512) : sProp 𝕄 := hbM.view.loc (c : Thread nD τ) ↦[Finset.univ \ srcSet hT b s]{tok p s.val} Z

/-- What the transfer into row `s` delivers: the row at the gathered contents and the matrix row back. -/
def rowDone (s : Fin 512) : sProp 𝕄 :=
  iprop((scM.view.loc (c : Thread nD τ) ↦[rowSet p s]{fullShare} gath hT Z b) ∗ (hbM.view.loc (c : Thread nD τ) ↦[srcSet hT b s]{tok p s.val} Z))

instance rowDone_storable (s : Fin 512) : BI.Storable (upEmb : UEmb _ 𝕄) (rowDone c Z p hT b s) := by
  unfold rowDone; infer_instance

/-- The batch of a slot's 512 transfers, `j` started and `u` units waited for. -/
abbrev batch (j u : ℕ) : sProp 𝕄 :=
  Transfers.Batch (countersEmb (U := Pipeline.UD sig nD τ)) (c : Thread nD τ) (.dma (cell p)) () 48 (rowDone c Z p hT b) j u

/-- A token split at the row its transfer reads. -/
theorem rowTok_split (s : Fin 512) : rowTok c Z p s ⊢ iprop((hbM.view.loc (c : Thread nD τ) ↦[srcSet hT b s]{tok p s.val} Z) ∗ rowLeft c Z p hT b s) := by
  unfold rowTok rowLeft
  have h := pointsTo_union (ℓ := hbM.view.loc (c : Thread nD τ)) (q := tok p s.val) (f := Z) (Val := Elt F) (Ix := Unit) (Name := ℕ) (U := Pipeline.UD sig nD τ) (Lvl := ℕ)
    (I := srcSet hT b s) (J := Finset.univ \ srcSet hT b s) Finset.disjoint_sdiff
  rw [Finset.union_sdiff_of_subset (Finset.subset_univ _)] at h
  exact h.1

/-- and joined again. -/
theorem rowTok_join (s : Fin 512) : iprop((hbM.view.loc (c : Thread nD τ) ↦[srcSet hT b s]{tok p s.val} Z) ∗ rowLeft c Z p hT b s) ⊢ rowTok c Z p s := by
  unfold rowTok rowLeft
  have h := pointsTo_union (ℓ := hbM.view.loc (c : Thread nD τ)) (q := tok p s.val) (f := Z) (Val := Elt F) (Ix := Unit) (Name := ℕ) (U := Pipeline.UD sig nD τ) (Lvl := ℕ)
    (I := srcSet hT b s) (J := Finset.univ \ srcSet hT b s) Finset.disjoint_sdiff
  rw [Finset.union_sdiff_of_subset (Finset.subset_univ _)] at h
  exact h.2

end Pieces

/-! ## Starting the transfers -/

section Issue

variable (c : Dev nD) (T : TbBuf (F := F) c) (hT : InTable T) (Z : HbBuf (F := F) c) (p : Fin 2) (b : Fin 32)

/-- Before trip `k` of a loop that starts the transfers: `k` started, the rows and the tokens from `k` on in hand. -/
def issueInv (k : ℕ) (_ : Unit) : sProp 𝕄 :=
  iprop(tbPt c T ∗ batch c Z p hT b k 0 ∗ bigSep (Ring.rangeSet 512 k 512) (rowFree c p)
    ∗ bigSep (Ring.rangeSet 512 k 512) (rowTok c Z p) ∗ bigSep (Ring.rangeSet 512 0 k) (rowLeft c Z p hT b))

/-- One trip at any spelling of its offsets. -/
theorem issue_trip (k : Fin 512) (wo : Fin 1 → ℕ) (hwo : ∀ a, wo a + S1.size a ≤ S16384.size a) (hw : wo = ![512 * b.val + k.val])
    (so : Fin 1 → ℕ) (hso : ∀ a, so a + S1.size a ≤ S2.size a) (hs : so = ![p.val])
    (ro : Fin 3 → ℕ) (hro : ∀ a, ro a + S1x1x300.size a ≤ S2x512x300.size a) (hr : ro = ![p.val, k.val, 0])
    (C : Elt F .i32 → Prop) (dec : ∀ v, Decidable (C v)) (hC : C (word T b k))
    (hm : ∀ v : Elt F .i32, C v → ∀ a, k0_off3 v a + S1x300.size a ≤ S50000x300.size a) :
    issueInv c T hT Z p b k.val () ⊢ wp frame (wpE defs₀ Variants.none (c : Thread nD τ) none) Set.univ
      (do
        let v : Elt F .i32 ← smemLoad tbM (Rect.unit (s := S16384) wo S1.size hwo) numel1_S1 rfl
        have h : C v := (← Prog.lift (TpuEff.assume (C v) (dec v))).down
        Prog.lift (.enqueueDma ((hbM.slice (Rect.unit (s := S50000x300) (k0_off3 v) S1x300.size (hm v h)) (fun _ => rfl)).squeeze S300 squeezes_S1x300_S300)
          (.here ((scM.slice (Rect.unit (s := S2x512x300) ro S1x1x300.size hro) (fun _ => rfl)).squeeze S300 squeezes_S1x1x300_S300))
          (.dma ((cc0_scratch1.slice (Rect.unit (s := S2) so S1.size hso)).squeeze S_ squeezes_S1_S_).sem)
          ((View.wordExact_bits rfl).reshape _ _) ((View.wordExact_bits rfl).reshape _ _) ⟨Or.inl rfl, trivial⟩)
        pure ⟨⟩ : Prog (TpuEff nD τ sig (Elt F) Λ₀ .tc) Unit)
      (issueInv c T hT Z p b (k.val + 1)) := by
  have hk := k.isLt
  generalize hq : ((cc0_scratch1.slice (Rect.unit (s := S2) so S1.size hso)).squeeze S_ squeezes_S1_S_).sem = d
  obtain rfl : d = cell p := hq.symm.trans (cell_eq so hso p hs)
  subst hr
  unfold issueInv
  rw [Ring.bigSep_rangeSet_head (Φ := rowFree c p) (by omega) (by omega), Ring.bigSep_rangeSet_head (Φ := rowTok c Z p) (by omega) (by omega)]
  have hlast := Ring.bigSep_rangeSet_last (NB := 512) (lo := 0) (hi := k.val + 1) (Φ := rowLeft c Z p hT b) (by omega) (by omega)
  rw [hlast]
  unfold rowFree
  iintro ⟨HT, HB, ⟨⟨%f, HR⟩, HRs⟩, ⟨HK, HKs⟩, HL⟩
  rw [wp_bind]
  unfold smemLoad
  iapply (wp_smemLoadElt (defs := defs₀) (Γ := .empty) Variants.none (c : Thread nD τ) none Set.univ (S := Finset.univ) (q := fullShare.right) (f := T) (Finset.subset_univ _)) $$ [HT]
  · iexact HT
  iintro HT
  rw [wp_ret]
  imodintro
  rw [word_read c T wo hwo b k hw]
  simp only [Prog.lift, Prog.bind, bind, wp_bind]
  iapply (wp_assume (defs := defs₀) (Γ := .empty) Variants.none (c : Thread nD τ) none Set.univ hC)
  ihave HK' := (rowTok_split c Z p hT b k) $$ HK
  icases HK' with ⟨HS, HK⟩
  iapply (Transfers.wp_dmaBatch (countersEmb (U := Pipeline.UD sig nD τ)) Variants.none (c : Thread nD τ) none (defs := defs₀)
    (src := srcRow (word T b k) (src_inb _ (word_lt hT b k))) (dst := dstRow p k) (D := rowDone c Z p hT b) (q := tok p k.val) (fs := Z) (fd := f)
    (Sd := rowSet p k) (j := k.val) (u := 0) () 48 rfl (Finset.subset_of_eq (dstRow_set p k)) hk (Nat.zero_le _) ?_) $$ [HS HR HB]
  · unfold rowDone
    refine sep_mono_l ?_
    exact Entails.of_eq (pointsTo_congr (ℓ := scM.view.loc (c : Thread nD τ)) (landed_row c hT Z p b k _ f))
  · isplitl [HS]; · iexact HS
    isplitl [HR]; · iexact HR
    iexact HB
  iintro HB
  sl_step
  isplitl [HT]; · iexact HT
  isplitl [HB]; · iexact HB
  isplitl [HRs]; · iexact HRs
  isplitl [HKs]; · iexact HKs
  isplitl [HK]; · iexact HK
  iexact HL

end Issue

/-! ## Waiting for the transfers -/

section Drain

variable (c : Dev nD) {T : Words} (hT : InTable T) (Z : HbBuf (F := F) c) (p : Fin 2) (b : Fin 32)

/-- Before trip `k` of the loop that waits: the batch with `k` rows' units consumed, and after the last trip the cell at
    zero and everything the transfers delivered. -/
def drainInv (k : ℕ) (_ : Unit) : sProp 𝕄 :=
  iprop((∃ W, owes (c : Thread nD τ) 0 W)
    ∗ (if k < 512 then batch c Z p hT b 512 (k * 48) else iprop(semVal ((c : Thread nD τ), SemLoc.dma (cell p)) 0 ∗ bigSep Finset.univ (rowDone c Z p hT b))))

/-- One trip at any spelling of its offsets. -/
theorem drain_trip (k : Fin 512) (so : Fin 1 → ℕ) (hso : ∀ a, so a + S1.size a ≤ S2.size a) (hs : so = ![p.val])
    (ro : Fin 3 → ℕ) (hro : ∀ a, ro a + S1x1x300.size a ≤ S2x512x300.size a) :
    drainInv c hT Z p b k.val () ⊢ wp frame (wpE defs₀ Variants.none (c : Thread nD τ) none) Set.univ
      (do
        Prog.lift (.waitDma2 ((cc0_scratch1.slice (Rect.unit (s := S2) so S1.size hso)).squeeze S_ squeezes_S1_S_).sem
          ((hbM.slice (Rect.unit (s := S50000x300) ![0, 0] S1x300.size inb_S50000x300_S1x300_0_0) (fun _ => rfl)).squeeze S300 squeezes_S1x300_S300)
          ((scM.slice (Rect.unit (s := S2x512x300) ro S1x1x300.size hro) (fun _ => rfl)).squeeze S300 squeezes_S1x1x300_S300)
          ((View.wordExact_bits rfl).reshape _ _) ((View.wordExact_bits rfl).reshape _ _))
        pure ⟨⟩ : Prog (TpuEff nD τ sig (Elt F) Λ₀ .tc) Unit)
      (drainInv c hT Z p b (k.val + 1)) := by
  have hk := k.isLt
  generalize hq : ((cc0_scratch1.slice (Rect.unit (s := S2) so S1.size hso)).squeeze S_ squeezes_S1_S_).sem = d
  obtain rfl : d = cell p := hq.symm.trans (cell_eq so hso p hs)
  unfold drainInv
  rw [if_pos hk]
  rcases Nat.lt_or_ge (k.val + 1) 512 with h1 | h1
  · rw [if_pos h1]
    iintro ⟨⟨%W, HO⟩, HB⟩
    simp only [Prog.lift, bind, Prog.bind]
    iapply (Transfers.wp_waitBatch (countersEmb (U := Pipeline.UD sig nD τ)) Variants.none (c : Thread nD τ) none (defs := defs₀)
      (D := rowDone c Z p hT b) (u := k.val * 48) () (N := 48) rfl (by omega)) $$ [HB HO]
    · isplitl [HB]; · iexact HB
      iexact HO
    iintro ⟨HB, HO⟩
    sl_step
    isplitl [HO]; · iexists _; iexact HO
    rw [show (k.val + 1) * 48 = k.val * 48 + 48 by omega]
    iexact HB
  · rw [if_neg (Nat.not_lt.mpr h1)]
    iintro ⟨⟨%W, HO⟩, HB⟩
    simp only [Prog.lift, bind, Prog.bind]
    iapply (Transfers.wp_waitBatchLast (countersEmb (U := Pipeline.UD sig nD τ)) Variants.none (c : Thread nD τ) none (defs := defs₀)
      (D := rowDone c Z p hT b) (u := k.val * 48) () (N := 48) rfl (by omega) (by omega)) $$ [HB HO]
    · isplitl [HB]; · iexact HB
      iexact HO
    iintro ⟨HB, HC, HO⟩
    sl_step
    isplitl [HO]; · iexists _; iexact HO
    isplitl [HC]; · iexact HC
    iexact HB

end Drain

/-! ## The kernel's own loops -/

section Own

variable (c : Dev nD) (T : TbBuf (F := F) c) (hT : InTable T) (Z : HbBuf (F := F) c) (i : grid0.Coords)
variable (a3 : Memref sig .tc .vmem S3x300x512 .f32) (h3 : a3.IsWhole) (a4 : Memref sig .tc .vmem S1x512 .f32) (h4 : a4.IsWhole) (a5 : Memref sig .tc .vmem S1x1x512 .i32) (h5 : a5.IsWhole) (a6 : Memref sig .tc .vmem S1x1x512 .i32) (h6 : a6.IsWhole) (a7 : Memref sig .tc .vmem S1536x1536 .f32) (h7 : a7.IsWhole) (a8 : Memref sig .tc .vmem S1x1536 .f32) (h8 : a8.IsWhole) (a9 : Memref sig .tc .vmem S1536x8 .f32) (h9 : a9.IsWhole) (a10 : Memref sig .tc .vmem S1x8 .f32) (h10 : a10.IsWhole) (a11 : Memref sig .tc .vmem S1x512x8 .f32) (h11 : a11.IsWhole)

theorem trips1 : k0_t1_loop.trips = 512 := by decide +kernel
theorem trips2 : k0_t2_loop.trips = 512 := by decide +kernel
theorem trips3 : k0_t3_loop.trips = 512 := by decide +kernel

/-- A trip of the loop that starts point 0's rows. -/
theorem step1 (h : k0_cond1 i = 1#1) (k : Fin k0_t1_loop.trips) (acc : Unit) :
    issueInv c T hT Z 0 0 k.val acc ⊢ wp frame (wpE defs₀ Variants.none (c : Thread nD τ) none) Set.univ
      (k0_t1_body (F := F) i tbM (Memref.isWhole_whole _) hbM (Memref.isWhole_whole _) a3 h3 a4 h4 a5 h5 a6 h6 a7 h7 a8 h8 a9 h9 a10 h10 a11 h11 scM (Memref.isWhole_whole _) cc0_scratch1 h k acc) (issueInv c T hT Z 0 0 (k.val + 1)) := by
  have hk : k.val < 512 := trips1 ▸ k.isLt
  have e := issue_trip c T hT Z 0 0 ⟨k.val, hk⟩ (k0_off1 k) (k0_off1_inb i k h) ((k0_off1_eq k).trans (by simp))
    ![0] inb_S2_S1_0 rfl (k0_off2 k) (k0_off2_inb i k h) (k0_off2_eq k) (k0_chk1 i) (k0_chk1.dec i)
    (fun _ => src_inb _ (word_lt hT 0 ⟨k.val, hk⟩)) (fun v hv => k0_off3_inb i v hv h)
  unfold k0_t1_body
  exact e

/-- A trip of the loop that starts the next point's rows. -/
theorem step2 (h : k0_cond2 i = 1#1) (p : Fin 2) (hp : p.val = 1 - (i 0).val % 2) (b : Fin 32) (hb : b.val = (i 0).val + 1)
    (k : Fin k0_t2_loop.trips) (acc : Unit) :
    issueInv c T hT Z p b k.val acc ⊢ wp frame (wpE defs₀ Variants.none (c : Thread nD τ) none) Set.univ
      (k0_t2_body (F := F) i tbM (Memref.isWhole_whole _) hbM (Memref.isWhole_whole _) a3 h3 a4 h4 a5 h5 a6 h6 a7 h7 a8 h8 a9 h9 a10 h10 a11 h11 scM (Memref.isWhole_whole _) cc0_scratch1 h k acc) (issueInv c T hT Z p b (k.val + 1)) := by
  have hk : k.val < 512 := trips2 ▸ k.isLt
  have e := issue_trip c T hT Z p b ⟨k.val, hk⟩ (k0_off4 i k) (k0_off4_inb i k h)
    ((k0_off4_eq i k).trans (by rw [show 512 * (i 0).val + k.val + 512 = 512 * b.val + k.val by omega]))
    (k0_off5 i) (k0_off5_inb i h) ((k0_off5_eq i).trans (by rw [hp])) (k0_off6 i k) (k0_off6_inb i k h) ((k0_off6_eq i k).trans (by rw [hp]))
    (k0_chk2 i) (k0_chk2.dec i) (fun _ => src_inb _ (word_lt hT b ⟨k.val, hk⟩)) (fun v hv => k0_off7_inb i v hv h)
  unfold k0_t2_body
  exact e

/-- A trip of the loop that waits for this point's rows. -/
theorem step3 (p : Fin 2) (hp : p.val = (i 0).val % 2) (b : Fin 32) (k : Fin k0_t3_loop.trips) (acc : Unit) :
    drainInv c hT Z p b k.val acc ⊢ wp frame (wpE defs₀ Variants.none (c : Thread nD τ) none) Set.univ
      (k0_t3_body (F := F) i tbM (Memref.isWhole_whole _) hbM (Memref.isWhole_whole _) a3 h3 a4 h4 a5 h5 a6 h6 a7 h7 a8 h8 a9 h9 a10 h10 a11 h11 scM (Memref.isWhole_whole _) cc0_scratch1 k acc) (drainInv c hT Z p b (k.val + 1)) := by
  have hk : k.val < 512 := trips3 ▸ k.isLt
  have e := drain_trip c hT Z p b ⟨k.val, hk⟩ (k0_off8 i) (k0_off8_inb i) ((k0_off8_eq i).trans (by rw [hp])) (k0_off9 i k) (k0_off9_inb i k)
  unfold k0_t3_body
  exact e

end Own

end Cert.KernelIdeal.Hand

end
-- ==== Proof.KI.Body.lean ====
/- What a slot of the scratch holds between the loops, and the body of one grid point run from it. -/
module

public import proofs.«01_k».proof.Proof.KI.Loops
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A slot between the loops -/

section Slots

variable (c : Dev nD) (Z : HbBuf (F := F) c) (p : Fin 2)

/-- A slot nothing is in flight to: its cell at zero, its elements, its tokens. -/
def idle : sProp 𝕄 :=
  iprop(semVal ((c : Thread nD τ), SemLoc.dma (cell p)) 0 ∗ (∃ f : ScBuf (F := F) c, scM.view.loc (c : Thread nD τ) ↦[slotSet p]{fullShare} f)
    ∗ bigSep Finset.univ (rowTok c Z p))

variable {T : Words} (hT : InTable T) (b : Fin 32)

/-- A slot with the 512 transfers of point `b` in flight to it. -/
def flight : sProp 𝕄 := iprop(batch c Z p hT b 512 0 ∗ bigSep Finset.univ (rowLeft c Z p hT b))

/-- A row at some contents is a row free to be written. -/
theorem row_some (s : Fin 512) (f : ScBuf (F := F) c) : (scM.view.loc (c : Thread nD τ) ↦[rowSet p s]{fullShare} f : sProp 𝕄) ⊢ rowFree c p s := by
  unfold rowFree; iintro H; iexists f; iexact H

/-- A slot as its rows. -/
theorem slot_rows (f : ScBuf (F := F) c) :
    (scM.view.loc (c : Thread nD τ) ↦[slotSet p]{fullShare} f : sProp 𝕄) ⊢ bigSep Finset.univ (rowFree c p) := by
  refine (Entails.of_eq (Ring.pointsTo_sub_blocks (ℓ := scM.view.loc (c : Thread nD τ)) (q := fullShare) (rowSet p) (rowSet_disjoint p) (slotSet p) (rowSet_cover p) f)).trans
    (BI.bigSep_mono fun s _ => row_some c p s f)

/-- An idle slot opens to a batch of nothing and the rows and tokens its transfers will take. -/
theorem idle_open (T : TbBuf (F := F) c) (hT : InTable T) : iprop(tbPt c T ∗ idle c Z p) ⊢ (iprop(|={Set.univ}[frame]=> issueInv c T hT Z p b 0 ()) : sProp 𝕄) := by
  unfold idle issueInv
  iintro ⟨HT, HC, ⟨%f, HS⟩, HK⟩
  imod (Transfers.batch_alloc' (Lvl := ℕ) (countersEmb (U := Pipeline.UD sig nD τ)) (c : Thread nD τ) () 48 (rowDone c Z p hT b) (sm := .dma (cell p)) (E := Set.univ)) $$ HC with HB
  imodintro
  isplitl [HT]; · iexact HT
  isplitl [HB]; · iexact HB
  rw [Ring.rangeSet_univ, Ring.bigSep_rangeSet_empty (le_refl 0)]
  isplitl [HS]
  · iapply (slot_rows c p f) $$ HS
  isplitl [HK]; · iexact HK
  iempintro

/-- All transfers started, the slot is in flight. -/
theorem issued (T : TbBuf (F := F) c) (hT : InTable T) (a : Unit) : issueInv c T hT Z p b 512 a ⊢ (iprop(tbPt c T ∗ flight c Z p hT b) : sProp 𝕄) := by
  unfold flight issueInv
  iintro ⟨HT, HB, -, -, HL⟩
  rw [Ring.rangeSet_univ]
  isplitl [HT]; · iexact HT
  isplitl [HB]; · iexact HB
  iexact HL

/-- Everything delivered: the slot at the gathered contents and its tokens whole. -/
theorem landed : iprop(bigSep Finset.univ (rowDone c Z p hT b) ∗ bigSep Finset.univ (rowLeft c Z p hT b))
    ⊢ (iprop((scM.view.loc (c : Thread nD τ) ↦[slotSet p]{fullShare} gath hT Z b) ∗ bigSep Finset.univ (rowTok c Z p)) : sProp 𝕄) := by
  have e1 : bigSep Finset.univ (rowDone c Z p hT b) = (iprop(bigSep Finset.univ (fun s => scM.view.loc (c : Thread nD τ) ↦[rowSet p s]{fullShare} gath hT Z b)
      ∗ bigSep Finset.univ (fun s : Fin 512 => hbM.view.loc (c : Thread nD τ) ↦[srcSet hT b s]{tok p s.val} Z)) : sProp 𝕄) := BI.bigSep_sep _ _ _
  have e2 := Ring.pointsTo_sub_blocks (Val := Elt F) (Ix := Unit) (Name := ℕ) (U := Pipeline.UD sig nD τ) (Lvl := ℕ) (ℓ := scM.view.loc (c : Thread nD τ)) (q := fullShare) (rowSet p) (rowSet_disjoint p) (slotSet p) (rowSet_cover p) (gath hT Z b)
  rw [e1, e2]
  iintro ⟨⟨HS, HK⟩, HL⟩
  isplitl [HS]; · iexact HS
  have e3 : iprop(bigSep Finset.univ (fun s : Fin 512 => hbM.view.loc (c : Thread nD τ) ↦[srcSet hT b s]{tok p s.val} Z) ∗ bigSep Finset.univ (rowLeft c Z p hT b))
      ⊢ (bigSep Finset.univ (rowTok c Z p) : sProp 𝕄) :=
    (Entails.of_eq (BI.bigSep_sep _ _ _).symm).trans (BI.bigSep_mono fun s _ => rowTok_join c Z p hT b s)
  iapply e3
  isplitl [HK] <;> iassumption

end Slots

/-! ## The body of a grid point -/

/-- The slot point `b` reads, and the other. -/
def par (b : Fin 32) : Fin 2 := ⟨b.val % 2, by omega⟩
def oth (b : Fin 32) : Fin 2 := ⟨1 - b.val % 2, by omega⟩

theorem par_zero : par 0 = 0 := rfl

theorem cond1_iff : ∀ i : grid0.Coords, k0_cond1 i = 1#1 ↔ (i 0).val = 0 := by decide +kernel
theorem cond2_iff : ∀ i : grid0.Coords, k0_cond2 i = 1#1 ↔ (i 0).val < 31 := by decide +kernel

section Run

variable (c : Dev nD) (T : TbBuf (F := F) c) (hT : InTable T) (Z : HbBuf (F := F) c) (i : grid0.Coords)
variable (a3 : Memref sig .tc .vmem S3x300x512 .f32) (h3 : a3.IsWhole) (a4 : Memref sig .tc .vmem S1x512 .f32) (h4 : a4.IsWhole) (a5 : Memref sig .tc .vmem S1x1x512 .i32) (h5 : a5.IsWhole) (a6 : Memref sig .tc .vmem S1x1x512 .i32) (h6 : a6.IsWhole) (a7 : Memref sig .tc .vmem S1536x1536 .f32) (h7 : a7.IsWhole) (a8 : Memref sig .tc .vmem S1x1536 .f32) (h8 : a8.IsWhole) (a9 : Memref sig .tc .vmem S1536x8 .f32) (h9 : a9.IsWhole) (a10 : Memref sig .tc .vmem S1x8 .f32) (h10 : a10.IsWhole) (a11 : Memref sig .tc .vmem S1x512x8 .f32) (h11 : a11.IsWhole)

/-- The slot of point `b` when its body begins. -/
def before (b : Fin 32) : sProp 𝕄 := if b.val = 0 then idle c Z (par b) else flight c Z (par b) hT b

/-- The other slot once the body has started the next point's rows. -/
def next (b : Fin 32) : sProp 𝕄 := if h : b.val < 31 then flight c Z (oth b) hT ⟨b.val + 1, by omega⟩ else idle c Z (oth b)

/-- The loop that starts point 0's rows, whole. -/
theorem loop1 (h : k0_cond1 i = 1#1) (Q : Unit → sProp 𝕄) :
    iprop(tbPt c T ∗ idle c Z 0 ∗ (iprop(tbPt c T ∗ flight c Z 0 hT 0) -∗ Q ()))
      ⊢ wp frame (wpE defs₀ Variants.none (c : Thread nD τ) none) Set.univ
        (Scf.Loop.for k0_t1_loop (k0_t1_ok i h) ⟨⟩ (k0_t1_body (F := F) i tbM (Memref.isWhole_whole _) hbM (Memref.isWhole_whole _) a3 h3 a4 h4 a5 h5 a6 h6 a7 h7 a8 h8 a9 h9 a10 h10 a11 h11 scM (Memref.isWhole_whole _) cc0_scratch1 h)) Q := by
  iintro ⟨HT, HI, HQ⟩
  ihave HO := (idle_open c Z 0 0 T hT) $$ [HT HI]
  · isplitl [HT] <;> iassumption
  imod HO with HO
  sl_for (issueInv c T hT Z 0 0) $$ [HO HQ]
  · intro k acc; exact step1 c T hT Z i a3 h3 a4 h4 a5 h5 a6 h6 a7 h7 a8 h8 a9 h9 a10 h10 a11 h11 h k acc
  isplitl [HO]; · iexact HO
  iintro %acc HL
  rw [show Scf.trips k0_t1_loop.lb k0_t1_loop.ub k0_t1_loop.st = 512 from trips1]
  iapply HQ
  iapply (issued c Z 0 0 T hT acc) $$ HL

/-- The loop that starts the next point's rows, whole. -/
theorem loop2 (h : k0_cond2 i = 1#1) (p : Fin 2) (hp : p.val = 1 - (i 0).val % 2) (b : Fin 32) (hb : b.val = (i 0).val + 1) (Q : Unit → sProp 𝕄) :
    iprop(tbPt c T ∗ idle c Z p ∗ (iprop(tbPt c T ∗ flight c Z p hT b) -∗ Q ()))
      ⊢ wp frame (wpE defs₀ Variants.none (c : Thread nD τ) none) Set.univ
        (Scf.Loop.for k0_t2_loop (k0_t2_ok i h) ⟨⟩ (k0_t2_body (F := F) i tbM (Memref.isWhole_whole _) hbM (Memref.isWhole_whole _) a3 h3 a4 h4 a5 h5 a6 h6 a7 h7 a8 h8 a9 h9 a10 h10 a11 h11 scM (Memref.isWhole_whole _) cc0_scratch1 h)) Q := by
  iintro ⟨HT, HI, HQ⟩
  ihave HO := (idle_open c Z p b T hT) $$ [HT HI]
  · isplitl [HT] <;> iassumption
  imod HO with HO
  sl_for (issueInv c T hT Z p b) $$ [HO HQ]
  · intro k acc; exact step2 c T hT Z i a3 h3 a4 h4 a5 h5 a6 h6 a7 h7 a8 h8 a9 h9 a10 h10 a11 h11 h p hp b hb k acc
  isplitl [HO]; · iexact HO
  iintro %acc HL
  rw [show Scf.trips k0_t2_loop.lb k0_t2_loop.ub k0_t2_loop.st = 512 from trips2]
  iapply HQ
  iapply (issued c Z p b T hT acc) $$ HL

/-- The loop that waits for this point's rows, whole. -/
theorem loop3 (p : Fin 2) (hp : p.val = (i 0).val % 2) (b : Fin 32) (Q : Unit → sProp 𝕄) :
    iprop((∃ W, owes (c : Thread nD τ) 0 W) ∗ flight c Z p hT b
        ∗ (iprop((∃ W, owes (c : Thread nD τ) 0 W) ∗ semVal ((c : Thread nD τ), SemLoc.dma (cell p)) 0
            ∗ (scM.view.loc (c : Thread nD τ) ↦[slotSet p]{fullShare} gath hT Z b) ∗ bigSep Finset.univ (rowTok c Z p)) -∗ Q ()))
      ⊢ wp frame (wpE defs₀ Variants.none (c : Thread nD τ) none) Set.univ
        (Scf.Loop.for k0_t3_loop k0_t3_ok ⟨⟩ (k0_t3_body (F := F) i tbM (Memref.isWhole_whole _) hbM (Memref.isWhole_whole _) a3 h3 a4 h4 a5 h5 a6 h6 a7 h7 a8 h8 a9 h9 a10 h10 a11 h11 scM (Memref.isWhole_whole _) cc0_scratch1)) Q := by
  unfold flight
  iintro ⟨HW, ⟨HB, HL⟩, HQ⟩
  sl_for (drainInv c hT Z p b) $$ [HW HB HL HQ]
  · intro k acc; exact step3 c T hT Z i a3 h3 a4 h4 a5 h5 a6 h6 a7 h7 a8 h8 a9 h9 a10 h10 a11 h11 p hp b k acc
  isplitl [HW HB]
  · unfold drainInv
    rw [if_pos (by omega : 0 < 512)]
    isplitl [HW]; · iexact HW
    rw [Nat.zero_mul]; iexact HB
  iintro %acc HD
  rw [show Scf.trips k0_t3_loop.lb k0_t3_loop.ub k0_t3_loop.st = 512 from trips3]
  unfold drainInv
  rw [if_neg (Nat.lt_irrefl 512)]
  icases HD with ⟨HW, HC, HD⟩
  iapply HQ
  isplitl [HW]; · iexact HW
  isplitl [HC]; · iexact HC
  iapply (landed c Z p hT b)
  isplitl [HD] <;> iassumption

/-- The first branch: whatever the point, its slot is in flight behind it. -/
theorem start (b : Fin 32) (hb : (i 0).val = b.val) {α : Type} (k : Prog (TpuEff nD τ sig (Elt F) Λ₀ .tc) α) (Q : α → sProp 𝕄) :
    iprop(tbPt c T ∗ before c T hT Z b ∗ (iprop(tbPt c T ∗ flight c Z (par b) hT b) -∗ wp frame (wpE defs₀ Variants.none (c : Thread nD τ) none) Set.univ k Q))
      ⊢ wp frame (wpE defs₀ Variants.none (c : Thread nD τ) none) Set.univ
        (if h : k0_cond1 i = 1#1 then (do Scf.Loop.for k0_t1_loop (k0_t1_ok i h) ⟨⟩ (k0_t1_body (F := F) i tbM (Memref.isWhole_whole _) hbM (Memref.isWhole_whole _) a3 h3 a4 h4 a5 h5 a6 h6 a7 h7 a8 h8 a9 h9 a10 h10 a11 h11 scM (Memref.isWhole_whole _) cc0_scratch1 h); k) else k) Q := by
  unfold before
  by_cases h : k0_cond1 i = 1#1
  · have h0 : b.val = 0 := by rw [← hb]; exact (cond1_iff i).mp h
    obtain rfl : b = 0 := Fin.ext h0
    rw [dif_pos h, if_pos h0, par_zero, wp_bind]
    iintro ⟨HT, HI, Hk⟩
    iapply (loop1 c T hT Z i a3 h3 a4 h4 a5 h5 a6 h6 a7 h7 a8 h8 a9 h9 a10 h10 a11 h11 h) $$ [HT HI Hk]
    isplitl [HT]; · iexact HT
    isplitl [HI]; · iexact HI
    iexact Hk
  · have h0 : b.val ≠ 0 := fun e => h ((cond1_iff i).mpr (hb.trans e))
    rw [dif_neg h, if_neg h0]
    iintro ⟨HT, HF, Hk⟩
    iapply Hk
    isplitl [HT] <;> iassumption

/-- The second branch: the other slot is left as `next` says. -/
theorem ahead (b : Fin 32) (hb : (i 0).val = b.val) {α : Type} (k : Prog (TpuEff nD τ sig (Elt F) Λ₀ .tc) α) (Q : α → sProp 𝕄) :
    iprop(tbPt c T ∗ idle c Z (oth b) ∗ (iprop(tbPt c T ∗ next c T hT Z b) -∗ wp frame (wpE defs₀ Variants.none (c : Thread nD τ) none) Set.univ k Q))
      ⊢ wp frame (wpE defs₀ Variants.none (c : Thread nD τ) none) Set.univ
        (if h : k0_cond2 i = 1#1 then (do Scf.Loop.for k0_t2_loop (k0_t2_ok i h) ⟨⟩ (k0_t2_body (F := F) i tbM (Memref.isWhole_whole _) hbM (Memref.isWhole_whole _) a3 h3 a4 h4 a5 h5 a6 h6 a7 h7 a8 h8 a9 h9 a10 h10 a11 h11 scM (Memref.isWhole_whole _) cc0_scratch1 h); k) else k) Q := by
  unfold next
  by_cases h : k0_cond2 i = 1#1
  · have h0 : b.val < 31 := by rw [← hb]; exact (cond2_iff i).mp h
    rw [dif_pos h, dif_pos h0, wp_bind]
    iintro ⟨HT, HI, Hk⟩
    iapply (loop2 c T hT Z i a3 h3 a4 h4 a5 h5 a6 h6 a7 h7 a8 h8 a9 h9 a10 h10 a11 h11 h (oth b) (by rw [hb]; rfl) ⟨b.val + 1, by omega⟩ (by rw [hb])) $$ [HT HI Hk]
    isplitl [HT]; · iexact HT
    isplitl [HI]; · iexact HI
    iexact Hk
  · have h0 : ¬ b.val < 31 := fun e => h ((cond2_iff i).mpr (hb ▸ e))
    rw [dif_neg h, dif_neg h0]
    iintro ⟨HT, HI, Hk⟩
    iapply Hk
    isplitl [HT] <;> iassumption

/-- The slot the body loads is the slot it waited for. -/
theorem load_sub (b : Fin 32) (hb : (i 0).val = b.val) : (scM.access (Rect.unit (s := S2x512x300) (k0_off10 i) S1x512x300.size (k0_off10_inb i))).set ⊆ slotSet (par b) := by
  intro y hy
  have hy' : y ∈ (Rect.unit (s := S2x512x300) (k0_off10 i) S1x512x300.size (k0_off10_inb i)).set := by
    have e := View.set_slice_whole cc0_scratch0 (Rect.unit (s := S2x512x300) (k0_off10 i) S1x512x300.size (k0_off10_inb i))
    exact e ▸ hy
  rw [Rect.mem_set_unit] at hy'
  have h0 := hy' 0
  rw [k0_off10_eq i] at h0
  have h1 : (i 0).val % 2 ≤ (y 0).val ∧ (y 0).val < (i 0).val % 2 + 1 := h0
  rw [mem_slotSet]
  show (y 0).val = b.val % 2
  omega

/-- The rows of point `b`, as the body loads them. -/
def rowsOf (b : Fin 32) : Vec F S1x512x300 .f32 := fun y => gath hT Z b (ix3 (n0 := 2) (n1 := 512) (n2 := 300) 0 (y 1) (y 2))

/-- The load of the slot reads the point's rows. -/
theorem load_rows (b : Fin 32) : (scM.access (Rect.unit (s := S2x512x300) (k0_off10 i) S1x512x300.size (k0_off10_inb i))).read (Elt F) (gath hT Z b) = rowsOf c T hT Z b := by
  funext y
  show gath hT Z b ((Rect.unit (s := S2x512x300) (k0_off10 i) S1x512x300.size (k0_off10_inb i)).emb y) = gath hT Z b _
  have o1 : k0_off10 i 1 = 0 := by rw [k0_off10_eq i]; rfl
  have o2 : k0_off10 i 2 = 0 := by rw [k0_off10_eq i]; rfl
  have e : (Rect.unit (s := S2x512x300) (k0_off10 i) S1x512x300.size (k0_off10_inb i)).emb y
      = ix3 (n0 := 2) (n1 := 512) (n2 := 300) ((Rect.unit (s := S2x512x300) (k0_off10 i) S1x512x300.size (k0_off10_inb i)).emb y 0) (y 1) (y 2) := by
    funext a; fin_cases a
    · rfl
    · exact Fin.ext (by show k0_off10 i 1 + 1 * (y 1).val = (y 1).val; omega)
    · exact Fin.ext (by show k0_off10 i 2 + 1 * (y 2).val = (y 2).val; omega)
  rw [e]; rfl

/-- One tap of the convolution's weights. -/
def tap (x : Vec F S3x300x512 .f32) (o : Fin 3) : Vec F S1x300x512 .f32 := fun y => x (ix3 (n0 := 3) (n1 := 300) (n2 := 512) o (y 1) (y 2))

/-- The `o`-th 512 rows of the first layer's weights. -/
def w1Rows (x : Vec F S1536x1536 .f32) (o : Fin 3) : Vec F S512x1536 .f32 := fun y =>
  x (ix2 (n0 := 1536) (n1 := 1536) ⟨512 * o.val + (y 0).val, by have := o.isLt; have : (y 0).val < 512 := (y 0).isLt; omega⟩ (y 1))

/-- The output block of a point, from its rows and its windows' blocks. -/
def outBlk (r : Vec F S1x512x300 .f32) (x0 : Vec F S3x300x512 .f32) (x1 : Vec F S1x512 .f32) (x2 : Vec F S1x1x512 .i32) (x3 : Vec F S1x1x512 .i32) (x4 : Vec F S1536x1536 .f32) (x5 : Vec F S1x1536 .f32) (x6 : Vec F S1536x8 .f32) (x7 : Vec F S1x8 .f32) : Vec F S1x512x8 .f32 :=
  k0_pay1 (k0_pay7 (k0_pay2 r (tap x0 0) (tap x0 1) (tap x0 2)) (k0_pay3 x1) x2 x3) (k0_pay8 (k0_pay2 r (tap x0 0) (tap x0 1) (tap x0 2)) (k0_pay3 x1) x3)
    (k0_pay9 (k0_pay2 r (tap x0 0) (tap x0 1) (tap x0 2)) (k0_pay3 x1) x2 (w1Rows x4 0)) (w1Rows x4 1) (w1Rows x4 2) x5 x6 x7

/-- A load through a whole memref reads the block it holds. -/
theorem readAt_unread {s : Shape} {e : EltTy} {a : Memref sig .tc .vmem s e} (h : a.IsWhole) (x : Vec F s e) (r : LoadRect s) :
    a.view.readAt (Elt F) r (h.unread x) = fun j => x (r.idx j) := by
  funext j; rw [View.readAt_apply, h.read_unread]

theorem read_tap {a : Memref sig .tc .vmem S3x300x512 .f32} (h : a.IsWhole) (x : Vec F S3x300x512 .f32) (o : Fin 3) (inb) :
    a.view.readAt (Elt F) (Rect.unit (s := S3x300x512) ![o.val, 0, 0] ![1, 300, 512] inb).toLoadRect (h.unread x) = tap x o := by
  rw [readAt_unread]
  funext j
  unfold tap
  refine congrArg x ?_
  have h0 : (j 0).val < 1 := (j 0).isLt
  funext d; fin_cases d
  · exact Fin.ext (by show o.val + 1 * (j 0).val = o.val; omega)
  · exact Fin.ext (by show 0 + 1 * (j 1).val = (j 1).val; omega)
  · exact Fin.ext (by show 0 + 1 * (j 2).val = (j 2).val; omega)

theorem read_w1 {a : Memref sig .tc .vmem S1536x1536 .f32} (h : a.IsWhole) (x : Vec F S1536x1536 .f32) (o : Fin 3) (n : ℕ) (hn : n = 512 * o.val) (inb) :
    a.view.readAt (Elt F) (Rect.unit (s := S1536x1536) ![n, 0] ![512, 1536] inb).toLoadRect (h.unread x) = w1Rows x o := by
  subst hn
  rw [readAt_unread]
  funext j
  unfold w1Rows
  refine congrArg x ?_
  funext d; fin_cases d
  · exact Fin.ext (by show 512 * o.val + 1 * (j 0).val = 512 * o.val + (j 0).val; omega)
  · exact Fin.ext (by show 0 + 1 * (j 1).val = (j 1).val; omega)

theorem read_all3 {n0 n1 n2 : ℕ} {e : EltTy} {a : Memref sig .tc .vmem ⟨3, ![n0, n1, n2]⟩ e} (h : a.IsWhole) (x : Vec F ⟨3, ![n0, n1, n2]⟩ e) (inb) :
    a.view.readAt (Elt F) (Rect.unit (s := ⟨3, ![n0, n1, n2]⟩) ![0, 0, 0] ![n0, n1, n2] inb).toLoadRect (h.unread x) = x := by
  rw [readAt_unread]
  funext j
  refine congrArg x ?_
  funext d; fin_cases d
  · exact Fin.ext (by show 0 + 1 * (j 0).val = (j 0).val; omega)
  · exact Fin.ext (by show 0 + 1 * (j 1).val = (j 1).val; omega)
  · exact Fin.ext (by show 0 + 1 * (j 2).val = (j 2).val; omega)

theorem read_all2 {n0 n1 : ℕ} {e : EltTy} {a : Memref sig .tc .vmem ⟨2, ![n0, n1]⟩ e} (h : a.IsWhole) (x : Vec F ⟨2, ![n0, n1]⟩ e) (inb) :
    a.view.readAt (Elt F) (Rect.unit (s := ⟨2, ![n0, n1]⟩) ![0, 0] ![n0, n1] inb).toLoadRect (h.unread x) = x := by
  rw [readAt_unread]
  funext j
  refine congrArg x ?_
  funext d; fin_cases d
  · exact Fin.ext (by show 0 + 1 * (j 0).val = (j 0).val; omega)
  · exact Fin.ext (by show 0 + 1 * (j 1).val = (j 1).val; omega)

set_option maxHeartbeats 4000000 in
/-- The body of point `b` from its windows' blocks: it ends with the slot it read idle, the other as `next` says, and the
    output window at the block the arithmetic makes. -/
theorem body_run (b : Fin 32) (hb : (i 0).val = b.val) (x0 : Vec F S3x300x512 .f32) (x1 : Vec F S1x512 .f32) (x2 : Vec F S1x1x512 .i32) (x3 : Vec F S1x1x512 .i32) (x4 : Vec F S1536x1536 .f32) (x5 : Vec F S1x1536 .f32) (x6 : Vec F S1536x8 .f32) (x7 : Vec F S1x8 .f32) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ (∃ d, owns (c : Thread nD τ) a11 fullShare d) ∗ tbPt c T ∗ before c T hT Z b ∗ idle c Z (oth b)
        ∗ (∃ W, owes (c : Thread nD τ) 0 W)
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare x6 ∗ owns (c : Thread nD τ) a10 fullShare x7 ∗ owns (c : Thread nD τ) a11 fullShare (outBlk (rowsOf c T hT Z b) x0 x1 x2 x3 x4 x5 x6 x7) ∗ tbPt c T ∗ idle c Z (par b) ∗ next c T hT Z b
            ∗ (∃ W, owes (c : Thread nD τ) 0 W)) -∗ K ⟨⟩))
      ⊢ wp frame (wpE defs₀ Variants.none (c : Thread nD τ) none) Set.univ (cc0_toicnn_fused (F := F) i tbM (Memref.isWhole_whole _) hbM (Memref.isWhole_whole _) a3 h3 a4 h4 a5 h5 a6 h6 a7 h7 a8 h8 a9 h9 a10 h10 a11 h11 scM (Memref.isWhole_whole _) cc0_scratch1) K := by
  simp only [cc0_toicnn_fused_eq_skeleton]; unfold cc0_toicnn_fused_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT, HB, HI, HW, Hk⟩
  obtain rfl := h3.eq_unread hf0; obtain rfl := h4.eq_unread hf1; obtain rfl := h5.eq_unread hf2; obtain rfl := h6.eq_unread hf3; obtain rfl := h7.eq_unread hf4; obtain rfl := h8.eq_unread hf5; obtain rfl := h9.eq_unread hf6; obtain rfl := h10.eq_unread hf7
  unfold k0_part1_skel
  rw [wp_bind]
  dsimp only
  iapply (start c T hT Z i a3 h3 a4 h4 a5 h5 a6 h6 a7 h7 a8 h8 a9 h9 a10 h10 a11 h11 b hb) $$ [-]
  isplitl [HT]; · iexact HT
  isplitl [HB]; · iexact HB
  iintro ⟨HT, HB⟩
  iapply (ahead c T hT Z i a3 h3 a4 h4 a5 h5 a6 h6 a7 h7 a8 h8 a9 h9 a10 h10 a11 h11 b hb) $$ [-]
  isplitl [HT]; · iexact HT
  isplitl [HI]; · iexact HI
  iintro ⟨HT, HN⟩
  rw [wp_bind]
  iapply (loop3 c T hT Z i a3 h3 a4 h4 a5 h5 a6 h6 a7 h7 a8 h8 a9 h9 a10 h10 a11 h11 (par b) (by rw [hb]; rfl) b) $$ [-]
  isplitl [HW]; · iexact HW
  isplitl [HB]; · iexact HB
  iintro ⟨HW, HC, HS, HK⟩
  simp only [Prog.lift, bind, Prog.bind]
  iapply (wp_load_rect Variants.none (c : Thread nD τ) none Set.univ (defs := defs₀) (Γ := .empty) (m := scM)
    (r := Rect.unit (s := S2x512x300) (k0_off10 i) S1x512x300.size (k0_off10_inb i)) (S := slotSet (par b)) (q := fullShare) (f := gath hT Z b) (load_sub i b hb)) $$ [HS]
  · iexact HS
  iintro HS
  rw [load_rows c T hT Z i b]
  unfold k0_part2_skel
  simp only [Prog.lift, bind, Pure.pure, Prog.bind]
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr; · ipureintro; exact h8.read_unread _
    iexact H5
  isplitl [H6]
  · iexists _; isplitr; · ipureintro; exact h9.read_unread _
    iexact H6
  isplitl [H7]
  · iexists _; isplitr; · ipureintro; exact h10.read_unread _
    iexact H7
  isplitl [H8]
  · iexists _; isplitr; swap; · iexact H8
    ipureintro
    refine (View.read_writes_full a11.view f8 inb_S1x512x8_S1x512x8_0_0_0 _ []).trans ?_
    unfold body_run.sl.r body_run.sl.r_1 outBlk
    rw [← read_tap h3 x0 0 inb_S3x300x512_S1x300x512_0_0_0, ← read_tap h3 x0 1 inb_S3x300x512_S1x300x512_1_0_0, ← read_tap h3 x0 2 inb_S3x300x512_S1x300x512_2_0_0,
      ← read_w1 h7 x4 0 0 rfl inb_S1536x1536_S512x1536_0_0, ← read_w1 h7 x4 1 512 rfl inb_S1536x1536_S512x1536_512_0, ← read_w1 h7 x4 2 1024 rfl inb_S1536x1536_S512x1536_1024_0]
    rw [read_all2 h4 x1 inb_S1x512_S1x512_0_0, read_all3 h5 x2 inb_S1x1x512_S1x1x512_0_0_0, read_all3 h6 x3 inb_S1x1x512_S1x1x512_0_0_0,
      read_all2 h8 x5 inb_S1x1536_S1x1536_0_0, read_all2 h9 x6 inb_S1536x8_S1536x8_0_0, read_all2 h10 x7 inb_S1x8_S1x8_0_0]
    rfl
  isplitl [HT]; · iexact HT
  isplitl [HC HS HK]
  · unfold idle
    isplitl [HC]; · iexact HC
    isplitl [HS]; · iexists _; iexact HS
    iexact HK
  isplitl [HN]; · iexact HN
  iexact HW

end Run

end Cert.KernelIdeal.Hand

end
-- ==== Proof.KI.Frame.lean ====
/- The run of the whole program: the invariant between grid points, the body obligation, the launch, and the frame. -/
module

public import proofs.«01_k».proof.Proof.KI.Body
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two slots between grid points -/

section Between

variable (c : Dev nD) (T : TbBuf (F := F) c) (hT : InTable T) (Z : HbBuf (F := F) c)

/-- Before point `n`: its rows are in flight to slot `n % 2`, unless it is the first point or past the last. -/
def slots (n : ℕ) : sProp 𝕄 :=
  if h : 0 < n ∧ n < 32 then iprop(flight c Z ⟨n % 2, by omega⟩ hT ⟨n, h.2⟩ ∗ idle c Z ⟨1 - n % 2, by omega⟩)
  else iprop(idle c Z 0 ∗ idle c Z 1)

/-- What a point finds. -/
theorem slots_found (b : Fin 32) : slots c T hT Z b.val ⊢ (iprop(before c T hT Z b ∗ idle c Z (oth b)) : sProp 𝕄) := by
  unfold slots before
  by_cases h : b.val = 0
  · obtain rfl : b = 0 := Fin.ext h
    rw [dif_neg (by simp), if_pos (by simp)]
    exact .rfl
  · rw [dif_pos ⟨Nat.pos_of_ne_zero h, b.isLt⟩, if_neg h]
    exact .rfl

/-- What a point leaves is what the next finds. -/
theorem slots_left (b : Fin 32) : iprop(idle c Z (par b) ∗ next c T hT Z b) ⊢ (slots c T hT Z (b.val + 1) : sProp 𝕄) := by
  unfold slots next
  by_cases h : b.val < 31
  · rw [dif_pos h, dif_pos ⟨by omega, by omega⟩]
    have e1 : oth b = ⟨(b.val + 1) % 2, by omega⟩ := Fin.ext (by show 1 - b.val % 2 = (b.val + 1) % 2; omega)
    have e2 : par b = ⟨1 - (b.val + 1) % 2, by omega⟩ := Fin.ext (by show b.val % 2 = 1 - (b.val + 1) % 2; omega)
    rw [e1, e2]
    iintro ⟨H0, H1⟩
    isplitl [H1] <;> iassumption
  · have hb := b.isLt
    rw [dif_neg h, dif_neg (by omega)]
    have e1 : oth b = 0 := Fin.ext (by show 1 - b.val % 2 = 0; omega)
    have e2 : par b = 1 := Fin.ext (by show b.val % 2 = 1; omega)
    rw [e1, e2]
    iintro ⟨H0, H1⟩
    isplitl [H1] <;> iassumption

/-- A thousand and twenty-four tokens are two runs of 512. -/
theorem range_halves {M : Type} [URA M] (Ψ : ℕ → sProp M) :
    bigSep (Finset.range 1024) Ψ = iprop(bigSep Finset.univ (fun s : Fin 512 => Ψ s.val) ∗ bigSep Finset.univ (fun s : Fin 512 => Ψ (512 + s.val))) := by
  rw [← Ring.bigSep_fin_eq_range 1024 (fun t : Fin 1024 => Ψ t.val) Ψ (fun _ _ => rfl), ← Ring.rangeSet_univ,
    Ring.bigSep_rangeSet_split (a := 0) (b := 512) (d := 1024) (by omega) (by omega),
    Ring.bigSep_rangeSet_eq_range (by omega) Ψ (fun k h => by show Ψ k = Ψ (0 + k); rw [Nat.zero_add]),
    Ring.bigSep_rangeSet_eq_range (by omega) (fun k => Ψ (512 + k)) (fun k h => rfl),
    Ring.bigSep_fin_eq_range 512 (fun s : Fin 512 => Ψ s.val) Ψ (fun _ _ => rfl),
    Ring.bigSep_fin_eq_range 512 (fun s : Fin 512 => Ψ (512 + s.val)) (fun k => Ψ (512 + k)) (fun _ _ => rfl)]

/-- The matrix held whole is what is never lent and the two slots' tokens. -/
theorem matrix_tokens : (hbM.view.loc (c : Thread nD τ) ↦{fullShare} Z : sProp 𝕄)
    ⊣⊢ iprop((hbM.view.loc (c : Thread nD τ) ↦{Transfers.shareDrop fullShare 1024} Z) ∗ bigSep Finset.univ (rowTok c Z 0) ∗ bigSep Finset.univ (rowTok c Z 1)) := by
  have h := Transfers.pointsTo_toks_range (Val := Elt F) (Ix := Unit) (Name := ℕ) (U := Pipeline.UD sig nD τ) (Lvl := ℕ) (ℓ := hbM.view.loc (c : Thread nD τ)) (S := Finset.univ) (f := Z) fullShare 1024
  rw [range_halves] at h
  have e0 : bigSep Finset.univ (rowTok c Z 0) = (bigSep Finset.univ (fun s : Fin 512 => hbM.view.loc (c : Thread nD τ) ↦[Finset.univ]{Transfers.shareTokN fullShare s.val} Z) : sProp 𝕄) :=
    BI.bigSep_congr fun s _ => by unfold rowTok tok; rw [show 512 * (0 : Fin 2).val + s.val = s.val from by simp]
  have e1 : bigSep Finset.univ (rowTok c Z 1) = (bigSep Finset.univ (fun s : Fin 512 => hbM.view.loc (c : Thread nD τ) ↦[Finset.univ]{Transfers.shareTokN fullShare (512 + s.val)} Z) : sProp 𝕄) :=
    BI.bigSep_congr fun s _ => by unfold rowTok tok; rw [show 512 * (1 : Fin 2).val + s.val = 512 + s.val from by simp]
  rw [e0, e1]
  exact h

/-- A family over the two slots. -/
theorem bigSep_two {M : Type} [URA M] (Ψ : Fin 2 → sProp M) : bigSep Finset.univ Ψ = iprop(Ψ 0 ∗ Ψ 1) :=
  bigSep_univ_eq_bigSepL [(0 : Fin 2), 1] (by decide) (by decide) Ψ

/-- The scratch held whole is its two slots. -/
theorem scratch_slots (f : ScBuf (F := F) c) : (scM.view.loc (c : Thread nD τ) ↦{fullShare} f : sProp 𝕄)
    = iprop((scM.view.loc (c : Thread nD τ) ↦[slotSet 0]{fullShare} f) ∗ (scM.view.loc (c : Thread nD τ) ↦[slotSet 1]{fullShare} f)) := by
  rw [Ring.pointsTo_blocks slotSet slotSet_disjoint slotSet_cover f, bigSep_two]

/-- Two slots at contents of their own are the scratch at some contents. -/
theorem scratch_join : (iprop((∃ f : ScBuf (F := F) c, scM.view.loc (c : Thread nD τ) ↦[slotSet 0]{fullShare} f)
      ∗ (∃ f : ScBuf (F := F) c, scM.view.loc (c : Thread nD τ) ↦[slotSet 1]{fullShare} f)) : sProp 𝕄)
    ⊢ iprop(∃ f : ScBuf (F := F) c, scM.view.loc (c : Thread nD τ) ↦{fullShare} f) := by
  iintro ⟨⟨%f, H0⟩, ⟨%g, H1⟩⟩
  have h := Ring.pointsTo_blocks_join_exists (Val := Elt F) (Ix := Unit) (Name := ℕ) (U := Pipeline.UD sig nD τ) (Lvl := ℕ) (ℓ := scM.view.loc (c : Thread nD τ)) (q := fullShare) slotSet slotSet_disjoint slotSet_cover f
  rw [bigSep_two] at h
  iapply h
  isplitl [H0]
  · iexists f; iexact H0
  iexists g; iexact H1

/-- The invariant before point `n`. -/
def inv (n : ℕ) : sProp 𝕄 :=
  iprop((∃ r, prngReg c r) ∗ tbPt c T ∗ (hbM.view.loc (c : Thread nD τ) ↦{Transfers.shareDrop fullShare 1024} Z) ∗ slots c T hT Z n)

/-- The launch's resources set the invariant up, -/
theorem inv_start : iprop(((∃ f : ScBuf (F := F) c, scM.view.loc (c : Thread nD τ) ↦{fullShare} f) ∗ (∃ r, prngReg c r)
      ∗ (semVal ((c : Thread nD τ), SemLoc.dma 12) 0 ∗ semVal ((c : Thread nD τ), SemLoc.dma 13) 0)
      ∗ (hbM.view.loc (c : Thread nD τ) ↦{fullShare} Z)) ∗ tbPt c T) ⊢ (inv c T hT Z 0 : sProp 𝕄) := by
  unfold inv slots
  rw [dif_neg (by simp)]
  unfold idle
  iintro ⟨⟨⟨%f, HS⟩, Hg, ⟨Hc0, Hc1⟩, HZ⟩, HT⟩
  isplitl [Hg]; · iexact Hg
  isplitl [HT]; · iexact HT
  ihave HZ' := (matrix_tokens c Z).1 $$ HZ
  icases HZ' with ⟨HZ, HK0, HK1⟩
  ihave HS' := (Entails.of_eq (scratch_slots c f)) $$ HS
  icases HS' with ⟨HS0, HS1⟩
  isplitl [HZ]; · iexact HZ
  isplitl [Hc0 HS0 HK0]
  · isplitl [Hc0]; · iexact Hc0
    isplitl [HS0]; · iexists f; iexact HS0
    iexact HK0
  isplitl [Hc1]; · iexact Hc1
  isplitl [HS1]; · iexists f; iexact HS1
  iexact HK1

/-- and get them back at the end. -/
theorem inv_end : inv c T hT Z 32 ⊢ (iprop((∃ f : ScBuf (F := F) c, scM.view.loc (c : Thread nD τ) ↦{fullShare} f) ∗ (∃ r, prngReg c r)
      ∗ (semVal ((c : Thread nD τ), SemLoc.dma 12) 0 ∗ semVal ((c : Thread nD τ), SemLoc.dma 13) 0)
      ∗ (hbM.view.loc (c : Thread nD τ) ↦{fullShare} Z)) : sProp 𝕄) := by
  unfold inv slots
  rw [dif_neg (by simp)]
  unfold idle
  iintro ⟨Hg, -, HZ, ⟨Hc0, HS0, HK0⟩, ⟨Hc1, HS1, HK1⟩⟩
  isplitl [HS0 HS1]
  · iapply (scratch_join c)
    isplitl [HS0] <;> iassumption
  isplitl [Hg]; · iexact Hg
  isplitl [Hc0 Hc1]
  · isplitl [Hc0]; · iexact Hc0
    iexact Hc1
  iapply (matrix_tokens c Z).2
  isplitl [HZ]; · iexact HZ
  isplitl [HK0] <;> iassumption

end Between

/-! ## The proof data -/

variable (m : (ℓ : Loc nD τ sig) → Buf (Elt F) ℓ) (ρ : Dev nD → PrngReg)

/-- The words of the table at the region's entry. -/
abbrev words : Words := tbl m 0

/-- Every word names a row of the embedding matrix. -/
def Ok : Prop := InTable (words m)

/-- The rows gathered for point `t`. -/
def rowsAt (hO : Ok m) (c : Dev nD) (t : Fin (cfgM m).N) : Vec F S1x512x300 .f32 :=
  rowsOf c (words m) hO (V m c main_arg2) (t.cast N_0)

/-- What the body leaves in the output window at point `t`. -/
def outAt (hO : Ok m) (c : Dev nD) (t : Fin (cfgM m).N) : Vec F S1x512x8 .f32 :=
  outBlk (rowsAt m hO c t) (iblk m c 0 t) (iblk m c 1 t) (iblk m c 2 t) (iblk m c 3 t) (iblk m c 4 t) (iblk m c 5 t) (iblk m c 6 t) (iblk m c 7 t)

/-- The proof data of the pipeline on core `c`. -/
def dats (hO : Ok m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m hO c t
  Φ t := inv c (words m) hO (V m c main_arg2) t.val
  q _ := fullShare
  owed _ := 0

/-- The arrays are what the region finds. -/
theorem A_eq (hO : Ok m) (c : Dev nD) (w : Fin (cfgM m).W) : (dats m hO 0 c).A w = V m c (Pipeline.arrRef spec0 w) := by
  dsimp only [dats]

/-- The body leaves input window 0 as it finds it. -/
theorem after_0 (hO : Ok m) (c : Dev nD) (t : Fin (cfgM m).N) : (dats m hO 0 c).after 0 t = iblk m c 0 t := by dsimp only [dats]; try rfl
/-- The body leaves input window 1 as it finds it. -/
theorem after_1 (hO : Ok m) (c : Dev nD) (t : Fin (cfgM m).N) : (dats m hO 0 c).after 1 t = iblk m c 1 t := by dsimp only [dats]; try rfl
/-- The body leaves input window 2 as it finds it. -/
theorem after_2 (hO : Ok m) (c : Dev nD) (t : Fin (cfgM m).N) : (dats m hO 0 c).after 2 t = iblk m c 2 t := by dsimp only [dats]; try rfl
/-- The body leaves input window 3 as it finds it. -/
theorem after_3 (hO : Ok m) (c : Dev nD) (t : Fin (cfgM m).N) : (dats m hO 0 c).after 3 t = iblk m c 3 t := by dsimp only [dats]; try rfl
/-- The body leaves input window 4 as it finds it. -/
theorem after_4 (hO : Ok m) (c : Dev nD) (t : Fin (cfgM m).N) : (dats m hO 0 c).after 4 t = iblk m c 4 t := by dsimp only [dats]; try rfl
/-- The body leaves input window 5 as it finds it. -/
theorem after_5 (hO : Ok m) (c : Dev nD) (t : Fin (cfgM m).N) : (dats m hO 0 c).after 5 t = iblk m c 5 t := by dsimp only [dats]; try rfl
/-- The body leaves input window 6 as it finds it. -/
theorem after_6 (hO : Ok m) (c : Dev nD) (t : Fin (cfgM m).N) : (dats m hO 0 c).after 6 t = iblk m c 6 t := by dsimp only [dats]; try rfl
/-- The body leaves input window 7 as it finds it. -/
theorem after_7 (hO : Ok m) (c : Dev nD) (t : Fin (cfgM m).N) : (dats m hO 0 c).after 7 t = iblk m c 7 t := by dsimp only [dats]; try rfl
/-- The body leaves the output window at its block. -/
theorem after_8 (hO : Ok m) (c : Dev nD) (t : Fin (cfgM m).N) : (dats m hO 0 c).after 8 t = outAt m hO c t := by dsimp only [dats]; try rfl

/-- Input window 0 holds its block at every point. -/
theorem before_0 (hO : Ok m) (c : Dev nD) (t : Fin (cfgM m).N) (d) : (dats m hO 0 c).before 0 t d = iblk m c 0 t :=
  before0_of m (dats m hO 0 c) (A_eq m hO c 0) (after_0 m hO c) t d
/-- Input window 1 holds its block at every point. -/
theorem before_1 (hO : Ok m) (c : Dev nD) (t : Fin (cfgM m).N) (d) : (dats m hO 0 c).before 1 t d = iblk m c 1 t :=
  before1_of m (dats m hO 0 c) (A_eq m hO c 1) (after_1 m hO c) t d
/-- Input window 2 holds its block at every point. -/
theorem before_2 (hO : Ok m) (c : Dev nD) (t : Fin (cfgM m).N) (d) : (dats m hO 0 c).before 2 t d = iblk m c 2 t :=
  before2_of m (dats m hO 0 c) (A_eq m hO c 2) (after_2 m hO c) t d
/-- Input window 3 holds its block at every point. -/
theorem before_3 (hO : Ok m) (c : Dev nD) (t : Fin (cfgM m).N) (d) : (dats m hO 0 c).before 3 t d = iblk m c 3 t :=
  before3_of m (dats m hO 0 c) (A_eq m hO c 3) (after_3 m hO c) t d
/-- Input window 4 holds its block at every point. -/
theorem before_4 (hO : Ok m) (c : Dev nD) (t : Fin (cfgM m).N) (d) : (dats m hO 0 c).before 4 t d = iblk m c 4 t :=
  before4_of m (dats m hO 0 c) (A_eq m hO c 4) (after_4 m hO c) t d
/-- Input window 5 holds its block at every point. -/
theorem before_5 (hO : Ok m) (c : Dev nD) (t : Fin (cfgM m).N) (d) : (dats m hO 0 c).before 5 t d = iblk m c 5 t :=
  before5_of m (dats m hO 0 c) (A_eq m hO c 5) (after_5 m hO c) t d
/-- Input window 6 holds its block at every point. -/
theorem before_6 (hO : Ok m) (c : Dev nD) (t : Fin (cfgM m).N) (d) : (dats m hO 0 c).before 6 t d = iblk m c 6 t :=
  before6_of m (dats m hO 0 c) (A_eq m hO c 6) (after_6 m hO c) t d
/-- Input window 7 holds its block at every point. -/
theorem before_7 (hO : Ok m) (c : Dev nD) (t : Fin (cfgM m).N) (d) : (dats m hO 0 c).before 7 t d = iblk m c 7 t :=
  before7_of m (dats m hO 0 c) (A_eq m hO c 7) (after_7 m hO c) t d

/-! ## The body obligation -/

/-- The grid's coordinate at point `t` is `t`. -/
theorem coords_val : ∀ t : Fin grid0.N, (grid0.coords t 0).val = t.val := by decide +kernel

/-- What the body is called with at point `t`, -/
def bodyPre (hO : Ok m) (c : Dev nD) (t : Fin (cfgM m).N) : sProp 𝕄 :=
  iprop((dats m hO 0 c).Φ t.castSucc ∗ (dats m hO 0 c).owesAt () t.castSucc
    ∗ (∃ d, owns (c : Thread nD τ) (ms0 m t) fullShare ((dats m hO 0 c).before 0 t d))
    ∗ (∃ d, owns (c : Thread nD τ) (ms1 m t) fullShare ((dats m hO 0 c).before 1 t d))
    ∗ (∃ d, owns (c : Thread nD τ) (ms2 m t) fullShare ((dats m hO 0 c).before 2 t d))
    ∗ (∃ d, owns (c : Thread nD τ) (ms3 m t) fullShare ((dats m hO 0 c).before 3 t d))
    ∗ (∃ d, owns (c : Thread nD τ) (ms4 m t) fullShare ((dats m hO 0 c).before 4 t d))
    ∗ (∃ d, owns (c : Thread nD τ) (ms5 m t) fullShare ((dats m hO 0 c).before 5 t d))
    ∗ (∃ d, owns (c : Thread nD τ) (ms6 m t) fullShare ((dats m hO 0 c).before 6 t d))
    ∗ (∃ d, owns (c : Thread nD τ) (ms7 m t) fullShare ((dats m hO 0 c).before 7 t d))
    ∗ (∃ d, owns (c : Thread nD τ) (ms8 m t) fullShare ((dats m hO 0 c).before 8 t d)))

/-- and what it returns. -/
def bodyPost (hO : Ok m) (c : Dev nD) (t : Fin (cfgM m).N) : sProp 𝕄 :=
  iprop((dats m hO 0 c).Φ t.succ ∗ (dats m hO 0 c).owesAt () t.succ
    ∗ owns (c : Thread nD τ) (ms0 m t) fullShare ((dats m hO 0 c).after 0 t)
    ∗ owns (c : Thread nD τ) (ms1 m t) fullShare ((dats m hO 0 c).after 1 t)
    ∗ owns (c : Thread nD τ) (ms2 m t) fullShare ((dats m hO 0 c).after 2 t)
    ∗ owns (c : Thread nD τ) (ms3 m t) fullShare ((dats m hO 0 c).after 3 t)
    ∗ owns (c : Thread nD τ) (ms4 m t) fullShare ((dats m hO 0 c).after 4 t)
    ∗ owns (c : Thread nD τ) (ms5 m t) fullShare ((dats m hO 0 c).after 5 t)
    ∗ owns (c : Thread nD τ) (ms6 m t) fullShare ((dats m hO 0 c).after 6 t)
    ∗ owns (c : Thread nD τ) (ms7 m t) fullShare ((dats m hO 0 c).after 7 t)
    ∗ owns (c : Thread nD τ) (ms8 m t) fullShare ((dats m hO 0 c).after 8 t))

set_option maxHeartbeats 1600000 in
/-- The body at any point. -/
theorem sound_body (hO : Ok m) (c : Dev nD) (t : Fin (cfgM m).N) :
    bodyPre m hO c t ⊢ wp frame (wpE (defs₀ (F := F)) Variants.none c none) Set.univ (bodyAt m t) (fun _ => bodyPost m hO c t) := by
  unfold bodyPre bodyPost bodyAt
  simp only [before_0, before_1, before_2, before_3, before_4, before_5, before_6, before_7]
  rw [after_0, after_1, after_2, after_3, after_4, after_5, after_6, after_7, after_8]
  rw [show (dats m hO 0 c).Φ t.castSucc = inv c (words m) hO (V m c main_arg2) (t.cast N_0).val from rfl,
    show (dats m hO 0 c).Φ t.succ = inv c (words m) hO (V m c main_arg2) ((t.cast N_0).val + 1) from rfl]
  unfold inv
  unfold Dat.owesAt Pipeline.owesWithin
  rw [show (dats m hO 0 c).owed t.castSucc = 0 from rfl, show (dats m hO 0 c).owed t.succ = 0 from rfl]
  iintro ⟨⟨Hg, HT, HZ, HS⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HS' := (slots_found c (words m) hO (V m c main_arg2) (t.cast N_0)) $$ HS
  icases HS' with ⟨HB, HI⟩
  iapply (body_run c (words m) hO (V m c main_arg2) (grid0.coords t) _ _ _ _ _ _ _ _ _ _ _ _ _ _ _ _ _ _ (t.cast N_0) (coords_val t) (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HT]; · iexact HT
  isplitl [HB]; · iexact HB
  isplitl [HI]; · iexact HI
  isplitl [HW]; · iexists W; iexact HW
  iintro ⟨H0, H1, H2, H3, H4, H5, H6, H7, H8, HT, HI, HN, ⟨%W', HW'⟩⟩
  isplitl [Hg HT HZ HI HN]
  · isplitl [Hg]; · iexact Hg
    isplitl [HT]; · iexact HT
    isplitl [HZ]; · iexact HZ
    iapply (slots_left c (words m) hO (V m c main_arg2) (t.cast N_0))
    isplitl [HI] <;> iassumption
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`. -/
theorem defs₀_row (t : Fin (cfgM m).N) :
    defs₀ (F := F) .tc (cfgM m).body ((cfgM m).bodyArgs t ((cfgM m).slots t)) = bodyAt m t := by
  unfold defs₀; rw [Defs.onTc_tc]

/-- The body obligation, at every point. -/
theorem body_obligation (hO : Ok m) (c : Dev nD) : BodyObligation (dats (F := F) m hO 0 c) (defs₀ (F := F)) Variants.none () Set.univ := fun t => by
  rw [bigSep_W0, bigSep_W0, defs₀_row m]
  exact triple_restated (sound_body m hO c t) rfl .rfl fun _ => .rfl

/-! ## The host lines after the region -/

/-- They touch neither the table nor the embedding matrix. -/
theorem tail_apart : ∀ ops ∈ ([hostOps1, hostOps1_1] : List (List (HloOp τ sig (Elt F)))), ∀ op ∈ ops,
    op.bufs ⊆ Pipeline.tailRefsBut sig pre0 spec0 HB := by
  intro ops hops op hop
  simp only [List.mem_cons, List.mem_nil_iff, or_false] at hops
  rcases hops with rfl | rfl
  all_goals refine Pipeline.sub_tailRefsBut pre0 spec0 HB op (by first | exact (List.forall_iff_forall_mem.mp hostOps1_sub) op hop | exact (List.forall_iff_forall_mem.mp hostOps1_1_sub) op hop) ?_ ?_
  all_goals simp only [hostOps1, hostOps1_1, List.mem_cons, List.mem_nil_iff, or_false] at hop
  all_goals rcases hop with rfl | rfl | rfl
  all_goals first
    | (intro k; obtain rfl : k = 0 := Subsingleton.elim _ _)
    | (intro b hb; obtain rfl : b = main_arg2 := by simpa [HB] using hb)
  all_goals simp only [StableHlo.nullary_bufs, StableHlo.unary_bufs, StableHlo.binary_bufs, StableHlo.reshape_bufs, Finset.mem_insert, Finset.mem_singleton, not_or]
  all_goals and_intros
  all_goals exact StableHlo.devRef_ne_of_ne (by decide)

/-- They take no fresh storage. -/
theorem tail_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  all_goals simp only [hostOps1, hostOps1_1, List.mem_cons, List.mem_nil_iff, or_false] at hop
  all_goals rcases hop with rfl | rfl | rfl
  all_goals rfl

/-- They write none of the region's arrays. -/
theorem tail_keeps : ∀ ops ∈ ([hostOps1, hostOps1_1] : List (List (HloOp τ sig (Elt F)))), ∀ op ∈ ops, ∀ w,
    Proc.devRef .tc (Pipeline.arrRef spec0 w) ∉ op.writes := by
  intro ops hops op hop w
  simp only [List.mem_cons, List.mem_nil_iff, or_false] at hops
  rcases hops with rfl | rfl
  all_goals simp only [hostOps1, hostOps1_1, List.mem_cons, List.mem_nil_iff, or_false] at hop
  all_goals rcases hop with rfl | rfl | rfl
  all_goals simp only [StableHlo.nullary_writes, StableHlo.unary_writes, StableHlo.binary_writes, StableHlo.reshape_writes, Finset.mem_singleton]
  all_goals refine StableHlo.devRef_ne_of_ne ?_
  all_goals revert w; decide

/-! ## The run -/

/-- The contents of every buffer when the program ends. -/
abbrev final (hO : Ok m) : (c : Dev nD) → (b : Ref sig .tc) → Buf (Elt F) ((c.tc : Thread nD τ).loc b) :=
  Pipeline.afterTail pcfgs (fun _ => adm m) (dats m hO) 0 (V0 m) [hostOps1, hostOps1_1]

set_option maxHeartbeats 1600000 in
set_option backward.isDefEq.respectTransparency.types false in
/-- The whole program runs: every array at what the library computes from the proof data, every other buffer at the host
    lines' results, and every counter at zero. -/
theorem run_main (hO : Ok m) : θ_run defs (onTc (τ := τ) (main (F := F))) (s₀ m ρ)
    (fun r => Pipeline.FramePost (Pipeline.pin pcfgs fun _ => adm m) (dats m hO) 0 (final m hO) r ∧ r.2.sem = fun _ => 0) :=
  Pipeline.θ_run_frameP_dma_around (Q' := _) pcfgs (fun _ => adm m) (dats m hO) (0 : Fin 1) launch0 osem defs₀ Variants.none ownSemFacts HB HB_sub m ρ main
    (hbody := fun c => (body_obligation m hO c).loose) (hshare := fun c => (dats m hO 0 c).share_full fun _ => rfl)
    (howed := fun _ _ => rfl) (V₀ := V0 m) (opss := [hostOps1, hostOps1_1]) (hsub := tail_apart) (hfresh := tail_fresh) (hkeep := tail_keeps)
    (hmain := region_of_main m Variants.none) (hA := A_eq m hO) (hpf := V_pre m)
    (hin := fun c => (Entails.of_eq (by rw [PhiD_eq, PhiT_eq])).trans (inv_start c (words m) hO (V m c main_arg2)))
    (hout := fun c => (inv_end c (words m) hO (V m c main_arg2)).trans (Entails.of_eq (PhiD_eq m c).symm))

/-- No host line writes `main_arg0`: it ends as launched. -/
theorem final_main_arg0 (hO : Ok m) (c : Dev nD) : final m hO c main_arg0 = m ((c : Thread nD τ).loc main_arg0) := by
  refine (StableHlo.after_of_forall_not_mem (b := Proc.devRef .tc main_arg0) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ?_
  rw [Pipeline.withArrays_of_ne _ _ _ _ _ (show ∀ w, Pipeline.arrRef spec0 w ≠ main_arg0 by decide)]
  exact V_main_arg0 m c

/-- No host line writes `main_arg1`: it ends as launched. -/
theorem final_main_arg1 (hO : Ok m) (c : Dev nD) : final m hO c main_arg1 = m ((c : Thread nD τ).loc main_arg1) := by
  refine (StableHlo.after_of_forall_not_mem (b := Proc.devRef .tc main_arg1) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ?_
  rw [Pipeline.withArrays_of_ne _ _ _ _ _ (show ∀ w, Pipeline.arrRef spec0 w ≠ main_arg1 by decide)]
  exact V_main_arg1 m c

/-- No host line writes `main_arg2`: it ends as launched. -/
theorem final_main_arg2 (hO : Ok m) (c : Dev nD) : final m hO c main_arg2 = m ((c : Thread nD τ).loc main_arg2) := by
  refine (StableHlo.after_of_forall_not_mem (b := Proc.devRef .tc main_arg2) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ?_
  rw [Pipeline.withArrays_of_ne _ _ _ _ _ (show ∀ w, Pipeline.arrRef spec0 w ≠ main_arg2 by decide)]
  exact V_main_arg2 m c

/-- No host line writes `main_arg3`: it ends as launched. -/
theorem final_main_arg3 (hO : Ok m) (c : Dev nD) : final m hO c main_arg3 = m ((c : Thread nD τ).loc main_arg3) := by
  refine (StableHlo.after_of_forall_not_mem (b := Proc.devRef .tc main_arg3) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ?_
  rw [Pipeline.withArrays_of_ne _ _ _ _ _ (show ∀ w, Pipeline.arrRef spec0 w ≠ main_arg3 by decide)]
  exact V_main_arg3 m c

/-- No host line writes `main_arg4`: it ends as launched. -/
theorem final_main_arg4 (hO : Ok m) (c : Dev nD) : final m hO c main_arg4 = m ((c : Thread nD τ).loc main_arg4) := by
  refine (StableHlo.after_of_forall_not_mem (b := Proc.devRef .tc main_arg4) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ?_
  rw [Pipeline.withArrays_of_ne _ _ _ _ _ (show ∀ w, Pipeline.arrRef spec0 w ≠ main_arg4 by decide)]
  exact V_main_arg4 m c

/-- No host line writes `main_arg5`: it ends as launched. -/
theorem final_main_arg5 (hO : Ok m) (c : Dev nD) : final m hO c main_arg5 = m ((c : Thread nD τ).loc main_arg5) := by
  refine (StableHlo.after_of_forall_not_mem (b := Proc.devRef .tc main_arg5) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ?_
  rw [Pipeline.withArrays_of_ne _ _ _ _ _ (show ∀ w, Pipeline.arrRef spec0 w ≠ main_arg5 by decide)]
  exact V_main_arg5 m c

/-- No host line writes `main_arg6`: it ends as launched. -/
theorem final_main_arg6 (hO : Ok m) (c : Dev nD) : final m hO c main_arg6 = m ((c : Thread nD τ).loc main_arg6) := by
  refine (StableHlo.after_of_forall_not_mem (b := Proc.devRef .tc main_arg6) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ?_
  rw [Pipeline.withArrays_of_ne _ _ _ _ _ (show ∀ w, Pipeline.arrRef spec0 w ≠ main_arg6 by decide)]
  exact V_main_arg6 m c

/-- No host line writes `main_arg7`: it ends as launched. -/
theorem final_main_arg7 (hO : Ok m) (c : Dev nD) : final m hO c main_arg7 = m ((c : Thread nD τ).loc main_arg7) := by
  refine (StableHlo.after_of_forall_not_mem (b := Proc.devRef .tc main_arg7) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ?_
  rw [Pipeline.withArrays_of_ne _ _ _ _ _ (show ∀ w, Pipeline.arrRef spec0 w ≠ main_arg7 by decide)]
  exact V_main_arg7 m c

/-- No host line writes `main_arg8`: it ends as launched. -/
theorem final_main_arg8 (hO : Ok m) (c : Dev nD) : final m hO c main_arg8 = m ((c : Thread nD τ).loc main_arg8) := by
  refine (StableHlo.after_of_forall_not_mem (b := Proc.devRef .tc main_arg8) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))).trans ?_
  rw [Pipeline.withArrays_of_ne _ _ _ _ _ (show ∀ w, Pipeline.arrRef spec0 w ≠ main_arg8 by decide)]
  exact V_main_arg8 m c

/-- THE FRAME: the arguments end unchanged and every counter at zero. -/
theorem frame_run (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨((h.1 c).2 main_arg0 (by decide : main_arg0 ∈ Pipeline.restRefs sig spec0)).trans (final_main_arg0 m hO c), ((h.1 c).2 main_arg1 (by decide : main_arg1 ∈ Pipeline.restRefs sig spec0)).trans (final_main_arg1 m hO c), ((h.1 c).2 main_arg2 (by decide : main_arg2 ∈ Pipeline.restRefs sig spec0)).trans (final_main_arg2 m hO c), ((h.1 c).2 main_arg3 (by decide : main_arg3 ∈ Pipeline.restRefs sig spec0)).trans (final_main_arg3 m hO c), ((h.1 c).2 main_arg4 (by decide : main_arg4 ∈ Pipeline.restRefs sig spec0)).trans (final_main_arg4 m hO c), ((h.1 c).2 main_arg5 (by decide : main_arg5 ∈ Pipeline.restRefs sig spec0)).trans (final_main_arg5 m hO c), ((h.1 c).2 main_arg6 (by decide : main_arg6 ∈ Pipeline.restRefs sig spec0)).trans (final_main_arg6 m hO c), ((h.1 c).2 main_arg7 (by decide : main_arg7 ∈ Pipeline.restRefs sig spec0)).trans (final_main_arg7 m hO c), ((h.1 c).2 main_arg8 (by decide : main_arg8 ∈ Pipeline.restRefs sig spec0)).trans (final_main_arg8 m hO c)⟩, h.2⟩) (run_main m ρ hO)

end Cert.KernelIdeal.Hand

end
-- ==== Proof.Range.lean ====
/- What the preconditions say of the arguments: every word is a row of the embedding matrix. -/
module

public import proofs.«01_k».proof.Defs
public import proofs.«01_k».proof.Proof.Gen.Pre_words_in_table
public import Idealize.ShloMosaic.Lib.WordCmp

@[expose] public section

noncomputable section

namespace Cert.Range

open Idealize.ShloMosaic Idealize.ShloMosaic.WordCmp

variable {F : FTy → Type} [FloatOps F]

/-- A conjunction of two bits is set when both are. -/
theorem both_set : ∀ a b : BitVec 1, IntOp.andi a b = 1#1 → a = 1#1 ∧ b = 1#1 := by decide

/-- The signed comparisons of words as comparisons of the integers they denote. -/
theorem le_of_sge {x y : BitVec 32} (h : IntOp.cmpi .sge x y = 1#1) : y.toInt ≤ x.toInt := by
  rw [cmpi_sge_eq, ofBool_decide_eq_one_iff] at h; exact h
/-- Signed less-than as a comparison of integers. -/
theorem lt_of_slt {x y : BitVec 32} (h : IntOp.cmpi .slt x y = 1#1) : x.toInt < y.toInt := by
  rw [cmpi_slt_eq, ofBool_decide_eq_one_iff] at h; exact h
/-- Signed at-most as a comparison of integers. -/
theorem le_of_sle {x y : BitVec 32} (h : IntOp.cmpi .sle x y = 1#1) : x.toInt ≤ y.toInt := by
  rw [cmpi_sle_eq, ofBool_decide_eq_one_iff] at h; exact h

/-- A word that is at least zero as an integer denotes the same natural. -/
theorem toInt_nonneg {x : BitVec 32} (h : 0 ≤ x.toInt) : x.toInt = x.toNat := by
  have := x.isLt
  rw [BitVec.toInt_eq_toNat_cond] at h ⊢
  split at h <;> rename_i hh
  · rw [if_pos hh]
  · omega

/-- The two comparisons of a word bound it. -/
theorem word_in {w : BitVec 32} (h : IntOp.andi (IntOp.cmpi .sge w 0#32) (IntOp.cmpi .slt w 50000#32) = 1#1) : w.toNat < 50000 := by
  obtain ⟨h1, h2⟩ := both_set _ _ h
  have h1 := le_of_sge h1
  have h2 := lt_of_slt h2
  rw [show (0#32 : BitVec 32).toInt = 0 from by decide] at h1
  rw [show (50000#32 : BitVec 32).toInt = 50000 from by decide, toInt_nonneg h1] at h2
  omega

/-- Under `words_in_table` every word is a row of the embedding matrix. -/
theorem words_of_table {a0 : IVec Pre_words_in_table.S32x512 32} {a1 a2 a3 a4 a5 a6 a7 a8}
    (h : Cert.Pre_words_in_table.fn (F := F) a0 a1 a2 a3 a4 a5 a6 a7 a8 = fun _ => 1#1) (i) : (a0 i).toNat < 50000 :=
  word_in (congrFun h i)

end Cert.Range

end
-- ==== Proof.KI.Table.lean ====
/- The host lines before the region, read: what each array of the region holds when it is entered, and that the
   precondition bounds the table of words. -/
module

public import proofs.«01_k».proof.Proof.KI.Frame
public import proofs.«01_k».proof.Proof.Range

@[expose] public section

noncomputable section

namespace Cert.KernelIdeal.Hand

open Cert.KernelIdeal.Gen
open Idealize.ShloMosaic Idealize.ShloMosaic.TcCoe Idealize.ShloMosaic.Tactic
open Idealize.ShloMosaic.StableHlo

variable {F : FTy → Type} [FloatOps F]
variable (m : (ℓ : Loc nD τ sig) → Buf (Elt F) ℓ)

/-- The table is the words, row after row. -/
theorem V_main_v0 (c : Dev nD) : V m c main_v0 = shapeCast S16384 (m ((c.tc : Thread nD τ).loc main_arg0)) shapeCasts_S32x512_S16384 := by
  show StableHlo.after (List.flatten [hostOps0]) (fun b => m (c, b)) (Proc.devRef .tc main_v0) = _
  simp only [hostOps0, List.flatten_cons, List.flatten_nil, List.append_nil]
  after_results
  rfl

/-- The convolution's weights, tap by tap. -/
theorem V_main_v2 (c : Dev nD) : V m c main_v2 = transpose S3x300x512 [1, 2, 0] (shapeCast S512x3x300 (m ((c.tc : Thread nD τ).loc main_arg3)) shapeCasts_S512x1x3x300_S512x3x300) transposes_S512x3x300_S3x300x512_1_2_0 := by
  show StableHlo.after (List.flatten [hostOps0]) (fun b => m (c, b)) (Proc.devRef .tc main_v2) = _
  simp only [hostOps0, List.flatten_cons, List.flatten_nil, List.append_nil]
  after_results
  rfl

/-- The spans' starts. -/
theorem V_main_v5 (c : Dev nD) : V m c main_v5 = shapeCast S32x1x512 (shapeCast S32x512 (extractStridedSlice S32x512x1 ![0, 0, 0] (m ((c.tc : Thread nD τ).loc main_arg1)) slices_S32x512x2_S32x512x1_0_0_0) shapeCasts_S32x512x1_S32x512) shapeCasts_S32x512_S32x1x512 := by
  show StableHlo.after (List.flatten [hostOps0]) (fun b => m (c, b)) (Proc.devRef .tc main_v5) = _
  simp only [hostOps0, List.flatten_cons, List.flatten_nil, List.append_nil]
  after_results
  rfl

/-- The spans' ends. -/
theorem V_main_v8 (c : Dev nD) : V m c main_v8 = shapeCast S32x1x512 (shapeCast S32x512 (extractStridedSlice S32x512x1 ![0, 0, 1] (m ((c.tc : Thread nD τ).loc main_arg1)) slices_S32x512x2_S32x512x1_0_0_1) shapeCasts_S32x512x1_S32x512) shapeCasts_S32x512_S32x1x512 := by
  show StableHlo.after (List.flatten [hostOps0]) (fun b => m (c, b)) (Proc.devRef .tc main_v8) = _
  simp only [hostOps0, List.flatten_cons, List.flatten_nil, List.append_nil]
  after_results
  rfl

/-- The convolution's bias as a row. -/
theorem V_main_v9 (c : Dev nD) : V m c main_v9 = shapeCast S1x512 (m ((c.tc : Thread nD τ).loc main_arg4)) shapeCasts_S512_S1x512 := by
  show StableHlo.after (List.flatten [hostOps0]) (fun b => m (c, b)) (Proc.devRef .tc main_v9) = _
  simp only [hostOps0, List.flatten_cons, List.flatten_nil, List.append_nil]
  after_results
  rfl

/-- The first layer's weights, transposed. -/
theorem V_main_v10 (c : Dev nD) : V m c main_v10 = transpose S1536x1536 [1, 0] (m ((c.tc : Thread nD τ).loc main_arg5)) transposes_S1536x1536_S1536x1536_1_0 := by
  show StableHlo.after (List.flatten [hostOps0]) (fun b => m (c, b)) (Proc.devRef .tc main_v10) = _
  simp only [hostOps0, List.flatten_cons, List.flatten_nil, List.append_nil]
  after_results

/-- The first layer's bias as a row. -/
theorem V_main_v11 (c : Dev nD) : V m c main_v11 = shapeCast S1x1536 (m ((c.tc : Thread nD τ).loc main_arg6)) shapeCasts_S1536_S1x1536 := by
  show StableHlo.after (List.flatten [hostOps0]) (fun b => m (c, b)) (Proc.devRef .tc main_v11) = _
  simp only [hostOps0, List.flatten_cons, List.flatten_nil, List.append_nil]
  after_results
  rfl

/-- The second layer's weights, transposed. -/
theorem V_main_v12 (c : Dev nD) : V m c main_v12 = transpose S1536x8 [1, 0] (m ((c.tc : Thread nD τ).loc main_arg7)) transposes_S8x1536_S1536x8_1_0 := by
  show StableHlo.after (List.flatten [hostOps0]) (fun b => m (c, b)) (Proc.devRef .tc main_v12) = _
  simp only [hostOps0, List.flatten_cons, List.flatten_nil, List.append_nil]
  after_results

/-- The second layer's bias as a row. -/
theorem V_main_v13 (c : Dev nD) : V m c main_v13 = shapeCast S1x8 (m ((c.tc : Thread nD τ).loc main_arg8)) shapeCasts_S8_S1x8 := by
  show StableHlo.after (List.flatten [hostOps0]) (fun b => m (c, b)) (Proc.devRef .tc main_v13) = _
  simp only [hostOps0, List.flatten_cons, List.flatten_nil, List.append_nil]
  after_results
  rfl

/-- Words in range make the table admissible. -/
theorem ok_of_words (h : ∀ i : S32x512.Idx, (m (((0 : Dev nD).tc : Thread nD τ).loc main_arg0) i : BitVec 32).toNat < 50000) : Ok m := by
  intro n
  have e : words m n = shapeCast S16384 (m (((0 : Dev nD).tc : Thread nD τ).loc main_arg0)) shapeCasts_S32x512_S16384 n := congrFun (V_main_v0 m 0) n
  rw [e]
  exact h _

end Cert.KernelIdeal.Hand

end
-- ==== Proof.Spec.lean ====
/- Sums over a sequence's positions: a one-hot row picks one position, a masked row with the span's reciprocal length
   takes the mean, which is a difference of prefix sums over the length. -/
module

public import Idealize.ShloMosaic.Lib.Pointwise
public import Idealize.ShloMosaic.Lib.WordCmp

@[expose] public section

noncomputable section

namespace Cert.Spec

open Idealize.ShloMosaic Idealize.ShloMosaic.WordCmp

/-! ## Real numbers among the extended ones -/

/-- An extended real that is a number. -/
def Real' (x : EReal) : Prop := ∃ r : ℝ, x = (r : EReal)

/-- Zero is a number. -/
theorem real_zero : Real' 0 := ⟨0, rfl⟩
/-- A sum of two numbers is one. -/
theorem real_add {x y : EReal} : Real' x → Real' y → Real' (x + y) := by
  rintro ⟨a, rfl⟩ ⟨b, rfl⟩; exact ⟨a + b, (EReal.coe_add a b).symm⟩
/-- A product of two numbers is one. -/
theorem real_mul {x y : EReal} : Real' x → Real' y → Real' (x * y) := by
  rintro ⟨a, rfl⟩ ⟨b, rfl⟩; exact ⟨a * b, (EReal.coe_mul a b).symm⟩
/-- The larger of two numbers is one. -/
theorem real_max {x y : EReal} (hx : Real' x) (hy : Real' y) : Real' (max x y) := by
  rcases max_choice x y with h | h <;> rw [h] <;> assumption
/-- A finite sum of numbers is one. -/
theorem real_sum {n : Nat} {f : Fin n → EReal} (h : ∀ k, Real' (f k)) : Real' (∑ k, f k) := by
  classical
  refine Finset.sum_induction f Real' (fun _ _ => real_add) real_zero fun k _ => h k

/-- The sum of the numbers is the number their sum is. -/
theorem coe_sum {n : Nat} (f : Fin n → ℝ) : ((∑ k, f k : ℝ) : EReal) = ∑ k, (f k : EReal) := by
  classical
  have h : ∀ s : Finset (Fin n), ((∑ k ∈ s, f k : ℝ) : EReal) = ∑ k ∈ s, (f k : EReal) := by
    intro s
    induction s using Finset.induction_on with
    | empty => rfl
    | insert a s ha ih => rw [Finset.sum_insert ha, Finset.sum_insert ha, EReal.coe_add, ih]
  exact h _

/-! ## Picking a position -/

/-- The word of a position is that position. -/
theorem toNat_pos (s : Fin 512) : (BitVec.ofNat 32 s.val).toNat = s.val := by
  have := s.isLt
  rw [BitVec.toNat_ofNat]; omega

/-- A one-hot sum is the value at the position its word names. -/
theorem pick (p : BitVec 32) (hp : p.toNat < 512) (g : Fin 512 → EReal) :
    (∑ s : Fin 512, Scalar.select (IntOp.cmpi .eq (BitVec.ofNat 32 s.val) p) (g s) 0) = g ⟨p.toNat, hp⟩ := by
  have e : ∀ s : Fin 512, Scalar.select (IntOp.cmpi .eq (BitVec.ofNat 32 s.val) p) (g s) 0 = if s = ⟨p.toNat, hp⟩ then g s else 0 := by
    intro s
    rw [cmpi_eq_eq_toNat, toNat_pos, select_decide]
    by_cases h : s.val = p.toNat
    · rw [if_pos h, if_pos (Fin.ext h)]
    · rw [if_neg h, if_neg fun h' => h (congrArg Fin.val h')]
  rw [Finset.sum_congr rfl fun s _ => e s, Finset.sum_ite_eq' Finset.univ]
  exact if_pos (Finset.mem_univ _)

/-! ## The mean of a span -/

/-- The sum over the positions before `n`. -/
def pre (g : Fin 512 → EReal) (n : Nat) : EReal := ∑ s : Fin 512, if s.val < n then g s else 0

/-- A span's masked sum with the reciprocal length is the difference of the prefix sums over the length. -/
theorem mean (a b : BitVec 32) (hab : a.toNat < b.toNat) (hb : b.toNat ≤ 512) (g : Fin 512 → EReal) (hg : ∀ s, Real' (g s)) :
    (∑ s : Fin 512, Scalar.select (IntOp.andi (IntOp.cmpi .sge (BitVec.ofNat 32 s.val) a) (IntOp.cmpi .slt (BitVec.ofNat 32 s.val) b))
        (Ideal.div 1 (FloatOps.sitofp (F := Ideal) .f32 (IntOp.subi b a)) * g s) 0)
      = Ideal.div (pre g b.toNat - pre g a.toNat) (FloatOps.sitofp (F := Ideal) .f32 (IntOp.subi b a)) := by
  choose r hr using hg
  have hL : (FloatOps.sitofp (F := Ideal) .f32 (IntOp.subi b a) : EReal) = (((b.toNat : ℝ) - a.toNat : ℝ) : EReal) := by
    show (((b - a).toInt : ℝ) : EReal) = _
    have h1 : (b - a).toNat = b.toNat - a.toNat := by
      rw [BitVec.toNat_sub]; omega
    have h2 : (b - a).toInt = ((b.toNat - a.toNat : ℕ) : Int) := by
      rw [← h1]; exact toInt_eq_toNat_of_lt_half (by rw [h1]; omega)
    rw [h2, Int.cast_natCast, Nat.cast_sub hab.le]
  have hne : ((b.toNat : ℝ) - a.toNat : ℝ) ≠ 0 := by
    have : (a.toNat : ℝ) < b.toNat := by exact_mod_cast hab
    linarith
  rw [hL, Ideal.div_coe hne, Ideal.div_coe hne, one_mul]
  set q : ℝ := 1 / ((b.toNat : ℝ) - a.toNat) with hq
  have e : ∀ s : Fin 512, Scalar.select (IntOp.andi (IntOp.cmpi .sge (BitVec.ofNat 32 s.val) a) (IntOp.cmpi .slt (BitVec.ofNat 32 s.val) b))
        ((q : EReal) * g s) 0 = ((if a.toNat ≤ s.val ∧ s.val < b.toNat then q * r s else 0 : ℝ) : EReal) := by
    intro s
    have hs := s.isLt
    rw [cmpi_sge_of_lt (by rw [toNat_pos]; omega) (by omega), cmpi_slt_of_lt (by rw [toNat_pos]; omega) (by omega), toNat_pos, andi_ofBool, hr s]
    by_cases h1 : a.toNat ≤ s.val <;> by_cases h2 : s.val < b.toNat <;>
      simp [h1, h2, select_one, select_zero]
  have p : ∀ n : Nat, pre g n = ((∑ s : Fin 512, if s.val < n then r s else 0 : ℝ) : EReal) := by
    intro n
    rw [coe_sum, pre]
    refine Finset.sum_congr rfl fun s _ => ?_
    rw [hr s]; split <;> rfl
  rw [Finset.sum_congr rfl fun s _ => e s, ← coe_sum, p, p, ← EReal.coe_sub, ← EReal.coe_mul]
  refine congrArg _ ?_
  rw [← Finset.sum_sub_distrib, Finset.sum_mul]
  refine Finset.sum_congr rfl fun s _ => ?_
  by_cases h1 : s.val < a.toNat
  · rw [if_neg (by omega), if_pos (by omega), if_pos h1]; ring
  · by_cases h2 : s.val < b.toNat
    · rw [if_pos ⟨by omega, h2⟩, if_pos h2, if_neg h1]; ring
    · rw [if_neg (by omega), if_neg h2, if_neg h1]; ring

/-! ## The features and the two layers of one sequence -/

/-- The features of a sequence of rows: three taps with zeros beyond either end, the bias, the rectifier. -/
def conv (r : Fin 512 → Fin 300 → EReal) (w : Fin 3 → Fin 300 → EReal) (b : EReal) (s : Fin 512) : EReal :=
  max ((∑ e : Fin 300, (if h : s.val < 1 then 0 else r ⟨s.val - 1, by omega⟩ e) * w 0 e) + (∑ e : Fin 300, r s e * w 1 e)
    + (∑ e : Fin 300, (if h : s.val < 511 then r ⟨1 + s.val, by omega⟩ e else 0) * w 2 e) + b) 0

/-- The features of numbers are numbers. -/
theorem real_conv {r : Fin 512 → Fin 300 → EReal} {w : Fin 3 → Fin 300 → EReal} {b : EReal}
    (hr : ∀ s e, Real' (r s e)) (hw : ∀ o e, Real' (w o e)) (hb : Real' b) (s : Fin 512) : Real' (conv r w b s) := by
  refine real_max (real_add (real_add (real_add (real_sum fun e => ?_) (real_sum fun e => real_mul (hr _ _) (hw _ _)))
    (real_sum fun e => ?_)) hb) real_zero
  · refine real_mul ?_ (hw _ _)
    split
    · exact real_zero
    · exact hr _ _
  · refine real_mul ?_ (hw _ _)
    split
    · exact hr _ _
    · exact real_zero

/-- The first layer of a span: its start's, its mean's and its last position's features, each against its own third of
    the weights. -/
def layer (s m e : Fin 512 → EReal) (w : Fin 1536 → EReal) (b : EReal) : EReal :=
  max ((∑ f : Fin 512, s f * w ⟨f.val, by omega⟩) + (∑ f : Fin 512, m f * w ⟨512 + f.val, by omega⟩)
    + (∑ f : Fin 512, e f * w ⟨1024 + f.val, by omega⟩) + b) 0

/-- One result of a span: the two layers on its start's, its mean's and its last position's features. -/
def out (r : Fin 512 → Fin 300 → EReal) (w : Fin 512 → Fin 3 → Fin 300 → EReal) (b : Fin 512 → EReal) (st en : BitVec 32)
    (hs : st.toNat < 512) (he : (IntOp.subi en 1#32).toNat < 512) (w1 : Fin 1536 → Fin 1536 → EReal) (b1 w2 : Fin 1536 → EReal)
    (b2 : EReal) : EReal :=
  (∑ h : Fin 1536, layer (fun f => conv r (w f) (b f) ⟨st.toNat, hs⟩)
    (fun f => Ideal.div (pre (conv r (w f) (b f)) en.toNat - pre (conv r (w f) (b f)) st.toNat) (FloatOps.sitofp (F := Ideal) .f32 (IntOp.subi en st)))
    (fun f => conv r (w f) (b f) ⟨(IntOp.subi en 1#32).toNat, he⟩) (w1 h) (b1 h) * w2 h) + b2

/-- Equal inputs give equal results. -/
theorem out_congr {r r' : Fin 512 → Fin 300 → EReal} {w w' : Fin 512 → Fin 3 → Fin 300 → EReal} {b b' : Fin 512 → EReal} {st st' en en' : BitVec 32}
    {w1 w1' : Fin 1536 → Fin 1536 → EReal} {b1 b1' w2 w2' : Fin 1536 → EReal} {b2 b2' : EReal}
    (hr : r = r') (hw : w = w') (hb : b = b') (h1 : st = st') (h2 : en = en') (hs he hs' he')
    (hw1 : w1 = w1') (hb1 : b1 = b1') (hw2 : w2 = w2') (hb2 : b2 = b2') :
    out r w b st en hs he w1 b1 w2 b2 = out r' w' b' st' en' hs' he' w1' b1' w2' b2' := by
  subst hr hw hb h1 h2 hw1 hb1 hw2 hb2; rfl

/-- A nonempty span within the sequence starts and ends within it. -/
theorem last_lt (st en : BitVec 32) (h : st.toNat < en.toNat) (h' : en.toNat ≤ 512) : (IntOp.subi en 1#32).toNat < 512 := by
  show (en - 1#32).toNat < 512
  rw [BitVec.toNat_sub]
  simp only [BitVec.toNat_ofNat]
  omega

/-- A sum over three equal parts. -/
theorem sum_thirds (f : Fin 1536 → EReal) : (∑ k, f k) = (∑ k : Fin 512, f ⟨k.val, by omega⟩)
    + (∑ k : Fin 512, f ⟨512 + k.val, by omega⟩) + (∑ k : Fin 512, f ⟨1024 + k.val, by omega⟩) := by
  rw [show (∑ k, f k) = ∑ k : Fin (1024 + 512), f k from rfl, Fin.sum_univ_add,
    show (∑ k : Fin 1024, f (Fin.castAdd 512 k)) = ∑ k : Fin (512 + 512), f ⟨k.val, by omega⟩ from rfl, Fin.sum_univ_add]
  rfl

end Cert.Spec

end
-- ==== Proof.KI.Point.lean ====
/- The body's output block read at an index, over the extended reals. -/
module

public import proofs.«01_k».proof.Proof.KI.Body
public import proofs.«01_k».proof.Proof.Spec
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal Cert.KernelIdeal.Gen

/-- The features: three taps on the shifted rows, the bias, the rectifier. -/
theorem feat_at (r : Vec Ideal S1x512x300 .f32) (x0 : Vec Ideal S3x300x512 .f32) (x1 : Vec Ideal S1x512 .f32) (s f : Fin 512) :
    max (k0_pay2 (F := Ideal) r (tap x0 0) (tap x0 1) (tap x0 2) (ix2 s f) + k0_pay3 (F := Ideal) x1 (ix2 s f)) 0
      = Cert.Spec.conv (fun s e => r (ix3 0 s e)) (fun o e => x0 (ix3 o e f)) (x1 (ix2 0 f)) s := by
  pointwise [k0_pay2, k0_pay3]
  rfl

/-- The means: the masked sum with the reciprocal length. -/
theorem pay7_at (x y : FVec Ideal S512x512 .f32) (st en : IVec S1x1x512 32) (t f : Fin 512) :
    k0_pay7 (F := Ideal) x y st en (ix2 t f) = ∑ s : Fin 512, Scalar.select
      (IntOp.andi (IntOp.cmpi .sge (BitVec.ofNat 32 s.val) (st (ix3 0 0 t))) (IntOp.cmpi .slt (BitVec.ofNat 32 s.val) (en (ix3 0 0 t))))
      (Ideal.div 1 (FloatOps.sitofp (F := Ideal) .f32 (IntOp.subi (en (ix3 0 0 t)) (st (ix3 0 0 t)))) * max (x (ix2 s f) + y (ix2 s f)) 0) 0 := by
  pointwise [k0_pay7, k0_pay4, k0_pay5, k0_pay6]

/-- The last positions: a one-hot sum. -/
theorem pay8_at (x y : FVec Ideal S512x512 .f32) (en : IVec S1x1x512 32) (t f : Fin 512) :
    k0_pay8 (F := Ideal) x y en (ix2 t f) = ∑ s : Fin 512, Scalar.select
      (IntOp.cmpi .eq (BitVec.ofNat 32 s.val) (IntOp.subi (en (ix3 0 0 t)) 1#32)) (max (x (ix2 s f) + y (ix2 s f)) 0) 0 := by
  pointwise [k0_pay8, k0_pay4, k0_pay5, k0_pay6]

/-- The starts, a one-hot sum, against the first third of the weights. -/
theorem pay9_at (x y : FVec Ideal S512x512 .f32) (st : IVec S1x1x512 32) (w : FVec Ideal S512x1536 .f32) (t : Fin 512) (h : Fin 1536) :
    k0_pay9 (F := Ideal) x y st w (ix2 t h) = ∑ f : Fin 512, (∑ s : Fin 512, Scalar.select
      (IntOp.cmpi .eq (BitVec.ofNat 32 s.val) (st (ix3 0 0 t))) (max (x (ix2 s f) + y (ix2 s f)) 0) 0) * w (ix2 f h) := by
  pointwise [k0_pay9, k0_pay4, k0_pay5, k0_pay6]

/-- The two layers. -/
theorem pay1_at (m e : FVec Ideal S512x512 .f32) (p : FVec Ideal S512x1536 .f32) (w1 w2 : FVec Ideal S512x1536 .f32)
    (b1 : FVec Ideal S1x1536 .f32) (v : FVec Ideal S1536x8 .f32) (b2 : FVec Ideal S1x8 .f32) (t : Fin 512) (l : Fin 8) :
    k0_pay1 (F := Ideal) m e p w1 w2 b1 v b2 (ix3 0 t l) = (∑ h : Fin 1536, max (p (ix2 t h) + (∑ f : Fin 512, m (ix2 t f) * w1 (ix2 f h))
      + (∑ f : Fin 512, e (ix2 t f) * w2 (ix2 f h)) + b1 (ix2 0 h)) 0 * v (ix2 h l)) + b2 (ix2 0 l) := by
  pointwise [k0_pay1]

/-- The output block at a span. -/
theorem outBlk_at (r : Vec Ideal S1x512x300 .f32) (x0 : Vec Ideal S3x300x512 .f32) (x1 : Vec Ideal S1x512 .f32) (x2 x3 : Vec Ideal S1x1x512 .i32)
    (x4 : Vec Ideal S1536x1536 .f32) (x5 : Vec Ideal S1x1536 .f32) (x6 : Vec Ideal S1536x8 .f32) (x7 : Vec Ideal S1x8 .f32) (t : Fin 512) (l : Fin 8)
    (hr : ∀ s e, Cert.Spec.Real' (r (ix3 0 s e))) (h0 : ∀ o e f, Cert.Spec.Real' (x0 (ix3 o e f))) (h1 : ∀ f, Cert.Spec.Real' (x1 (ix2 0 f)))
    (hse : (x2 (ix3 0 0 t) : BitVec 32).toNat < (x3 (ix3 0 0 t) : BitVec 32).toNat) (he : (x3 (ix3 0 0 t) : BitVec 32).toNat ≤ 512) :
    outBlk (F := Ideal) r x0 x1 x2 x3 x4 x5 x6 x7 (ix3 0 t l)
      = Cert.Spec.out (fun s e => r (ix3 0 s e)) (fun f o e => x0 (ix3 o e f)) (fun f => x1 (ix2 0 f))
        (x2 (ix3 0 0 t)) (x3 (ix3 0 0 t)) (lt_of_lt_of_le hse he) (Cert.Spec.last_lt _ _ hse he)
        (fun h k => x4 (ix2 k h)) (fun h => x5 (ix2 0 h)) (fun h => x6 (ix2 h l)) (x7 (ix2 0 l)) := by
  unfold outBlk Cert.Spec.out Cert.Spec.layer
  rw [pay1_at]
  refine congrArg (· + _) (Finset.sum_congr rfl fun h _ => congrArg (· * _) (congrArg (max · 0) (congrArg (· + _) ?_)))
  rw [pay9_at]
  simp only [pay7_at, pay8_at, feat_at]
  refine congrArg₂ (· + ·) (congrArg₂ (· + ·) ?_ ?_) ?_ <;> refine Finset.sum_congr rfl fun f _ => ?_
  · rw [Cert.Spec.pick _ (lt_of_lt_of_le hse he)]
    refine congrArg (fun z => _ * x4 (ix2 z h)) (Fin.ext ?_)
    show 512 * 0 + f.val = f.val
    omega
  · rw [Cert.Spec.mean _ _ hse he _ fun s => Cert.Spec.real_conv hr (fun o e => h0 o e f) (h1 f) s]
    refine congrArg (fun z => _ * x4 (ix2 z h)) (Fin.ext ?_)
    show 512 * 1 + f.val = 512 + f.val
    omega
  · rw [Cert.Spec.pick _ (Cert.Spec.last_lt _ _ hse he)]
    refine congrArg (fun z => _ * x4 (ix2 z h)) (Fin.ext ?_)
    show 512 * 2 + f.val = 1024 + f.val
    omega

end Cert.KernelIdeal.Hand

end
-- ==== Proof.Ref.Stages.lean ====
/- The reference's result as a composition of named stages: the embedded words, the convolution's features, the
   features gathered along the sequence, the prefix sums, the pooled spans and the two dense layers. -/
module

public import proofs.«01_k».proof.Proof.Gen.ReferenceIdeal.Run

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.SL.Sem

variable {F : FTy → Type} [FloatOps F]

/-- The words, a negative one counted from the end of the table, as start indices. -/
def wordIx (a0 : IVec S32x512 32) : IVec S32x512x1 32 :=
  broadcastInDim S32x512x1 ![0, 1] bcast_S32x512_S32x512x1_0_1
    (select (cmpi .slt a0 (broadcastInDim S32x512 ![] bcast_S_S32x512 (constantI S_ 32 0#32)))
      (addi a0 (broadcastInDim S32x512 ![] bcast_S_S32x512 (constantI S_ 32 50000#32))) a0)

/-- The embedded words with one row of zeros at either end of each sequence. -/
def padded (a0 : IVec S32x512 32) (a2 : FVec F S50000x300 .f32) : FVec F S32x514x300 .f32 :=
  pad S32x514x300 ![0, 1, 0] ![0, 1, 0] ![0, 0, 0]
    (Host.gather gather_S50000x300_S32x512x1_S32x512x300_2_0_n_n_0_2_1300 a2 (wordIx a0))
    (sitofp .f32 (constantI S_ 32 0#32)) pads_S32x512x300_S32x514x300_000_110_000 h_S_

/-- One tap of the convolution: a slice of the padded rows against one slice of the weights. -/
def tap (w : FVec F S512x300 .f32) (x : FVec F S32x512x300 .f32) : FVec F S32x512x512 .f32 :=
  transpose S32x512x512 [1, 0, 2] (Host.dotGeneral dot_S512x300_S32x512x300_S512x32x512_1_2_0_01_n_n none w x)
    transposes_S512x32x512_S32x512x512_1_0_2

/-- The zeros the rectifier compares with. -/
def zeros : FVec F S32x512x512 .f32 := broadcastInDim S32x512x512 ![] bcast_S_S32x512x512 (constant S_ .f32 0x00000000#32)

/-- The features of a padded sequence: three taps, the bias, the rectifier. -/
def feats (p : FVec F S32x514x300 .f32) (a3 : FVec F S512x1x3x300 .f32) (a4 : FVec F S512 .f32) : FVec F S32x512x512 .f32 :=
  maximumf (addf (addf (addf (addf zeros
    (tap (shapeCast S512x300 (extractStridedSlice S512x1x1x300 ![0, 0, 0, 0] a3 slices_S512x1x3x300_S512x1x1x300_0_0_0_0) shapeCasts_S512x1x1x300_S512x300)
      (extractStridedSlice S32x512x300 ![0, 0, 0] p slices_S32x514x300_S32x512x300_0_0_0)))
    (tap (shapeCast S512x300 (extractStridedSlice S512x1x1x300 ![0, 0, 1, 0] a3 slices_S512x1x3x300_S512x1x1x300_0_0_1_0) shapeCasts_S512x1x1x300_S512x300)
      (extractStridedSlice S32x512x300 ![0, 1, 0] p slices_S32x514x300_S32x512x300_0_1_0)))
    (tap (shapeCast S512x300 (extractStridedSlice S512x1x1x300 ![0, 0, 2, 0] a3 slices_S512x1x3x300_S512x1x1x300_0_0_2_0) shapeCasts_S512x1x1x300_S512x300)
      (extractStridedSlice S32x512x300 ![0, 2, 0] p slices_S32x514x300_S32x512x300_0_2_0)))
    (broadcastInDim S32x512x512 ![0, 1, 2] bcast_S1x512x1_S32x512x512_0_1_2 (broadcastInDim S1x512x1 ![1] bcast_S512_S1x512x1_1 a4)))
    zeros

/-- The spans' starts. -/
def starts (a1 : IVec S32x512x2 32) : IVec S32x512 32 :=
  shapeCast S32x512 (extractStridedSlice S32x512x1 ![0, 0, 0] a1 slices_S32x512x2_S32x512x1_0_0_0) shapeCasts_S32x512x1_S32x512

/-- The spans' ends. -/
def ends (a1 : IVec S32x512x2 32) : IVec S32x512 32 :=
  shapeCast S32x512 (extractStridedSlice S32x512x1 ![0, 0, 1] a1 slices_S32x512x2_S32x512x1_0_0_1) shapeCasts_S32x512x1_S32x512

/-- The spans' last positions. -/
def lasts (a1 : IVec S32x512x2 32) : IVec S32x512 32 :=
  subi (ends a1) (broadcastInDim S32x512 ![] bcast_S_S32x512 (constantI S_ 32 1#32))

/-- Positions along an axis of `n` as start indices, a negative one counted from the end. -/
def posIx (n : BitVec 32) (i : IVec S32x512 32) : IVec S32x512x1 32 :=
  shapeCast S32x512x1 (select
      (cmpi .slt (broadcastInDim S32x1x512 ![0, 2] bcast_S32x512_S32x1x512_0_2 i) (broadcastInDim S32x1x512 ![] bcast_S_S32x1x512 (constantI S_ 32 0#32)))
      (addi (broadcastInDim S32x1x512 ![0, 2] bcast_S32x512_S32x1x512_0_2 i) (broadcastInDim S32x1x512 ![] bcast_S_S32x1x512 (constantI S_ 32 n)))
      (broadcastInDim S32x1x512 ![0, 2] bcast_S32x512_S32x1x512_0_2 i))
    shapeCasts_S32x1x512_S32x512x1

/-- Which of the start indices lie between zero and `n`. -/
def inside (n : BitVec 32) (ix : IVec S32x512x1 32) : IVec S32x512x512 1 :=
  broadcastInDim S32x512x512 ![0, 2] bcast_S32x512_S32x512x512_0_2
    (Host.reduce IntOp.andi
      (andi (cmpi .sge ix (broadcastInDim S32x512x1 ![] bcast_S_S32x512x1 (constantI S_ 32 0#32)))
        (cmpi .sle ix (broadcastInDim S32x512x1 ![0, 1, 2] bcast_S1x1x1_S32x512x1_0_1_2 (broadcastInDim S1x1x1 ![2] bcast_S1_S1x1x1_2 (constantI S1 32 n)))))
      (constantI S_ 1 1#1) reducesTo_S32x512x1_S32x512_d2 h_S_)

/-- What stands where a start index is outside. -/
def fill : FVec F S32x512x512 .f32 := broadcastInDim S32x512x512 ![] bcast_S_S32x512x512 (constant S_ .f32 0x7FC00000#32)

/-- The features at given positions. -/
def take (x : FVec F S32x512x512 .f32) (i : IVec S32x512 32) : FVec F S32x512x512 .f32 :=
  select (inside 511#32 (posIx 512#32 i))
    (Host.gather gather_S32x512x512_S32x512x1_S32x512x512_1_2_0_0_2_2_15121 x (posIx 512#32 i)) fill

/-- The prefix sums at given positions. -/
def takeSum (x : FVec F S32x512x513 .f32) (i : IVec S32x512 32) : FVec F S32x512x512 .f32 :=
  select (inside 512#32 (posIx 513#32 i))
    (Host.gather gather_S32x512x513_S32x512x1_S32x512x512_1_2_0_0_2_2_15121 x (posIx 513#32 i)) fill

/-- The prefix sums along the sequence, a zero first. -/
def sums (x : FVec F S32x512x512 .f32) : FVec F S32x512x513 .f32 :=
  concatenate S32x512x513 2
    [⟨S32x512x1, (broadcastInDim S32x512x1 ![] bcast_S_S32x512x1 (constant S_ .f32 0x00000000#32) : FVec F S32x512x1 .f32)⟩,
     ⟨S32x512x512, Host.reduceWindowAdd ![1, 1, 512] ![1, 1, 1] ![0, 0, 511] ![0, 0, 0] x
      (broadcastInDim S_ ![] bcast_S_S_ (constant S_ .f32 0x00000000#32))
      reduceWindows_S32x512x512_S32x512x512_w1s1p0_0_w1s1p0_0_w512s1p511_0 h_S_⟩]
    concatenates_S32x512x1_S32x512x512_S32x512x513_d2

/-- The spans' means: a difference of prefix sums over the span's length. -/
def means (x : FVec F S32x512x512 .f32) (a1 : IVec S32x512x2 32) : FVec F S32x512x512 .f32 :=
  Host.divf (subf (takeSum (sums x) (ends a1)) (takeSum (sums x) (starts a1)))
    (broadcastInDim S32x512x512 ![0, 1, 2] bcast_S32x1x512_S32x512x512_0_1_2
      (broadcastInDim S32x1x512 ![0, 2] bcast_S32x512_S32x1x512_0_2 (sitofp .f32 (subi (ends a1) (starts a1)))))

/-- The pooled spans, one row each. -/
def pooled (x : FVec F S32x512x512 .f32) (a1 : IVec S32x512x2 32) : FVec F S16384x1536 .f32 :=
  shapeCast S16384x1536 (transpose S32x512x1536 [0, 2, 1]
    (concatenate S32x1536x512 1 [⟨S32x512x512, take x (starts a1)⟩, ⟨S32x512x512, means x a1⟩, ⟨S32x512x512, take x (lasts a1)⟩]
      concatenates_S32x512x512_S32x512x512_S32x512x512_S32x1536x512_d1) transposes_S32x1536x512_S32x512x1536_0_2_1)
    shapeCasts_S32x512x1536_S16384x1536

/-- The two dense layers. -/
def dense (p : FVec F S16384x1536 .f32) (a5 : FVec F S1536x1536 .f32) (a6 : FVec F S1536 .f32) (a7 : FVec F S8x1536 .f32) (a8 : FVec F S8 .f32) :
    FVec F S16384x8 .f32 :=
  addf (Host.dotGeneral dot_S16384x1536_S1536x8_S16384x8_1_0_0_1_n_n none
    (maximumf (addf (Host.dotGeneral dot_S16384x1536_S1536x1536_S16384x1536_1_0_0_1_n_n none p (transpose S1536x1536 [1, 0] a5 transposes_S1536x1536_S1536x1536_1_0))
      (broadcastInDim S16384x1536 ![0, 1] bcast_S1x1536_S16384x1536_0_1 (broadcastInDim S1x1536 ![1] bcast_S1536_S1x1536_1 a6)))
      (broadcastInDim S16384x1536 ![] bcast_S_S16384x1536 (constant S_ .f32 0x00000000#32)))
    (transpose S1536x8 [1, 0] a7 transposes_S8x1536_S1536x8_1_0))
    (broadcastInDim S16384x8 ![0, 1] bcast_S1x8_S16384x8_0_1 (broadcastInDim S1x8 ![1] bcast_S8_S1x8_1 a8))

/-- The reference's first result is these stages, one after another. -/
theorem res_eq (m : (ℓ : Loc nD τ sig) → Buf (Elt F) ℓ) (c : Dev nD) :
    res_main_v67 m c = dense (pooled (feats (padded (m ((c.tc : Thread nD τ).loc main_arg0)) (m ((c.tc : Thread nD τ).loc main_arg2)))
        (m ((c.tc : Thread nD τ).loc main_arg3)) (m ((c.tc : Thread nD τ).loc main_arg4))) (m ((c.tc : Thread nD τ).loc main_arg1)))
      (m ((c.tc : Thread nD τ).loc main_arg5)) (m ((c.tc : Thread nD τ).loc main_arg6)) (m ((c.tc : Thread nD τ).loc main_arg7))
      (m ((c.tc : Thread nD τ).loc main_arg8)) := by
  unfold res_main_v67
  rfl

end Cert.ReferenceIdeal.Stages

end
-- ==== Proof.Ref.Moves.lean ====
/- The reference's gathers and its prefix sums read at an index. -/
module

public import proofs.«01_k».proof.Proof.Ref.Stages
public import proofs.«01_k».proof.Proof.Spec

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.SL.Sem

/-- The gather of rows: the row that the start index names, clamped into the table. -/
theorem rows_at {α : Type} (x : S50000x300.Idx → α) (i : IVec S32x512x1 32) (b : Fin 32) (s : Fin 512) (e : Fin 300) :
    Host.gather gather_S50000x300_S32x512x1_S32x512x300_2_0_n_n_0_2_1300 x i (ix3 (n0 := 32) (n1 := 512) (n2 := 300) b s e)
      = x (ix2 (n0 := 50000) (n1 := 300) ⟨min (i (ix3 (n0 := 32) (n1 := 512) (n2 := 1) b s 0)).toInt.toNat 49999, by omega⟩ e) := by
  unfold Host.gather
  refine congrArg x (funext fun a => Fin.ext ?_)
  match a with
  | ⟨0, _⟩ =>
    show GatherDims.start gather_S50000x300_S32x512x1_S32x512x300_2_0_n_n_0_2_1300 (ix3 (n0 := 32) (n1 := 512) (n2 := 300) b s e) i 0 + GatherDims.batchCoord gather_S50000x300_S32x512x1_S32x512x300_2_0_n_n_0_2_1300 (ix3 (n0 := 32) (n1 := 512) (n2 := 300) b s e) 0 + GatherDims.offCoord gather_S50000x300_S32x512x1_S32x512x300_2_0_n_n_0_2_1300 (ix3 (n0 := 32) (n1 := 512) (n2 := 300) b s e) 0 = _
    rw [GatherDims.batchCoord_eq_zero _ _ _ (by decide), GatherDims.offCoord_eq_zero _ _ _ (by decide)]
    unfold GatherDims.start
    rw [dif_pos (by decide), Nat.add_zero]
    refine congrArg (fun z => min (BitVec.toInt (n := 32) (i z)).toNat 49999) (funext fun c => Fin.ext ?_)
    match c with
    | ⟨0, _⟩ => rfl
    | ⟨1, _⟩ => rfl
    | ⟨2, _⟩ => rfl
  | ⟨1, _⟩ =>
    show GatherDims.start gather_S50000x300_S32x512x1_S32x512x300_2_0_n_n_0_2_1300 (ix3 (n0 := 32) (n1 := 512) (n2 := 300) b s e) i 1 + GatherDims.batchCoord gather_S50000x300_S32x512x1_S32x512x300_2_0_n_n_0_2_1300 (ix3 (n0 := 32) (n1 := 512) (n2 := 300) b s e) 1 + GatherDims.offCoord gather_S50000x300_S32x512x1_S32x512x300_2_0_n_n_0_2_1300 (ix3 (n0 := 32) (n1 := 512) (n2 := 300) b s e) 1 = _
    rw [GatherDims.batchCoord_eq_zero _ _ _ (by decide)]
    unfold GatherDims.start GatherDims.offCoord
    rw [dif_neg (by decide), dif_pos (by decide), Nat.zero_add]
    rfl

/-- The gather along the sequence: the position that the start index names, clamped into the sequence. -/
theorem along_at {α : Type} (x : S32x512x512.Idx → α) (i : IVec S32x512x1 32) (b : Fin 32) (f t : Fin 512) :
    Host.gather gather_S32x512x512_S32x512x1_S32x512x512_1_2_0_0_2_2_15121 x i (ix3 (n0 := 32) (n1 := 512) (n2 := 512) b f t)
      = x (ix3 (n0 := 32) (n1 := 512) (n2 := 512) b f ⟨min (i (ix3 (n0 := 32) (n1 := 512) (n2 := 1) b t 0)).toInt.toNat 511, by omega⟩) := by
  unfold Host.gather
  refine congrArg x (funext fun a => Fin.ext ?_)
  match a with
  | ⟨0, _⟩ =>
    show GatherDims.start gather_S32x512x512_S32x512x1_S32x512x512_1_2_0_0_2_2_15121 (ix3 (n0 := 32) (n1 := 512) (n2 := 512) b f t) i 0 + GatherDims.batchCoord gather_S32x512x512_S32x512x1_S32x512x512_1_2_0_0_2_2_15121 (ix3 (n0 := 32) (n1 := 512) (n2 := 512) b f t) 0 + GatherDims.offCoord gather_S32x512x512_S32x512x1_S32x512x512_1_2_0_0_2_2_15121 (ix3 (n0 := 32) (n1 := 512) (n2 := 512) b f t) 0 = _
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    show GatherDims.start gather_S32x512x512_S32x512x1_S32x512x512_1_2_0_0_2_2_15121 (ix3 (n0 := 32) (n1 := 512) (n2 := 512) b f t) i 1 + GatherDims.batchCoord gather_S32x512x512_S32x512x1_S32x512x512_1_2_0_0_2_2_15121 (ix3 (n0 := 32) (n1 := 512) (n2 := 512) b f t) 1 + GatherDims.offCoord gather_S32x512x512_S32x512x1_S32x512x512_1_2_0_0_2_2_15121 (ix3 (n0 := 32) (n1 := 512) (n2 := 512) b f t) 1 = _
    rw [GatherDims.batchCoord_eq_zero _ _ _ (by decide)]
    unfold GatherDims.start GatherDims.offCoord
    rw [dif_neg (by decide), dif_pos (by decide), Nat.zero_add]
    rfl
  | ⟨2, _⟩ =>
    show GatherDims.start gather_S32x512x512_S32x512x1_S32x512x512_1_2_0_0_2_2_15121 (ix3 (n0 := 32) (n1 := 512) (n2 := 512) b f t) i 2 + GatherDims.batchCoord gather_S32x512x512_S32x512x1_S32x512x512_1_2_0_0_2_2_15121 (ix3 (n0 := 32) (n1 := 512) (n2 := 512) b f t) 2 + GatherDims.offCoord gather_S32x512x512_S32x512x1_S32x512x512_1_2_0_0_2_2_15121 (ix3 (n0 := 32) (n1 := 512) (n2 := 512) b f t) 2 = _
    rw [GatherDims.batchCoord_eq_zero _ _ _ (by decide), GatherDims.offCoord_eq_zero _ _ _ (by decide)]
    unfold GatherDims.start
    rw [dif_pos (by decide), Nat.add_zero]
    refine congrArg (fun z => min (BitVec.toInt (n := 32) (i z)).toNat 511) (funext fun c => Fin.ext ?_)
    match c with
    | ⟨0, _⟩ => rfl
    | ⟨1, _⟩ => rfl
    | ⟨2, _⟩ => rfl

/-- The gather along the prefix sums: the one that the start index names, clamped into them. -/
theorem along_sums_at {α : Type} (x : S32x512x513.Idx → α) (i : IVec S32x512x1 32) (b : Fin 32) (f t : Fin 512) :
    Host.gather gather_S32x512x513_S32x512x1_S32x512x512_1_2_0_0_2_2_15121 x i (ix3 (n0 := 32) (n1 := 512) (n2 := 512) b f t)
      = x (ix3 (n0 := 32) (n1 := 512) (n2 := 513) b f ⟨min (i (ix3 (n0 := 32) (n1 := 512) (n2 := 1) b t 0)).toInt.toNat 512, by omega⟩) := by
  unfold Host.gather
  refine congrArg x (funext fun a => Fin.ext ?_)
  match a with
  | ⟨0, _⟩ =>
    show GatherDims.start gather_S32x512x513_S32x512x1_S32x512x512_1_2_0_0_2_2_15121 (ix3 (n0 := 32) (n1 := 512) (n2 := 512) b f t) i 0 + GatherDims.batchCoord gather_S32x512x513_S32x512x1_S32x512x512_1_2_0_0_2_2_15121 (ix3 (n0 := 32) (n1 := 512) (n2 := 512) b f t) 0 + GatherDims.offCoord gather_S32x512x513_S32x512x1_S32x512x512_1_2_0_0_2_2_15121 (ix3 (n0 := 32) (n1 := 512) (n2 := 512) b f t) 0 = _
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    show GatherDims.start gather_S32x512x513_S32x512x1_S32x512x512_1_2_0_0_2_2_15121 (ix3 (n0 := 32) (n1 := 512) (n2 := 512) b f t) i 1 + GatherDims.batchCoord gather_S32x512x513_S32x512x1_S32x512x512_1_2_0_0_2_2_15121 (ix3 (n0 := 32) (n1 := 512) (n2 := 512) b f t) 1 + GatherDims.offCoord gather_S32x512x513_S32x512x1_S32x512x512_1_2_0_0_2_2_15121 (ix3 (n0 := 32) (n1 := 512) (n2 := 512) b f t) 1 = _
    rw [GatherDims.batchCoord_eq_zero _ _ _ (by decide)]
    unfold GatherDims.start GatherDims.offCoord
    rw [dif_neg (by decide), dif_pos (by decide), Nat.zero_add]
    rfl
  | ⟨2, _⟩ =>
    show GatherDims.start gather_S32x512x513_S32x512x1_S32x512x512_1_2_0_0_2_2_15121 (ix3 (n0 := 32) (n1 := 512) (n2 := 512) b f t) i 2 + GatherDims.batchCoord gather_S32x512x513_S32x512x1_S32x512x512_1_2_0_0_2_2_15121 (ix3 (n0 := 32) (n1 := 512) (n2 := 512) b f t) 2 + GatherDims.offCoord gather_S32x512x513_S32x512x1_S32x512x512_1_2_0_0_2_2_15121 (ix3 (n0 := 32) (n1 := 512) (n2 := 512) b f t) 2 = _
    rw [GatherDims.batchCoord_eq_zero _ _ _ (by decide), GatherDims.offCoord_eq_zero _ _ _ (by decide)]
    unfold GatherDims.start
    rw [dif_pos (by decide), Nat.add_zero]
    refine congrArg (fun z => min (BitVec.toInt (n := 32) (i z)).toNat 512) (funext fun c => Fin.ext ?_)
    match c with
    | ⟨0, _⟩ => rfl
    | ⟨1, _⟩ => rfl
    | ⟨2, _⟩ => rfl

/-- A left fold of additions is the sum. -/
theorem fold_sum {n : Nat} (g : Fin n → EReal) (v : EReal) : (List.finRange n).foldl (fun r k => r + g k) v = v + ∑ k, g k := by
  rw [Fin.sum_univ_def]
  generalize List.finRange n = l
  induction l generalizing v with
  | nil => simp
  | cons a l ih => rw [List.foldl_cons, ih, List.map_cons, List.sum_cons, add_assoc]

/-- A window sum is the initial value and the sum over the window's positions. -/
theorem window_at {s t u : Shape} (window strides lo hi : Fin s.rank → Nat) (x : FVec Ideal s .f32) (init : FVec Ideal u .f32)
    (h : s.ReduceWindows window strides lo hi t) (hu : 0 < u.numel) (j : t.Idx) :
    Host.reduceWindowAdd window strides lo hi x init h hu j = init (Shape.Idx.first hu)
      + ∑ y : (⟨s.rank, window⟩ : Shape).Idx,
        if hin : ∀ a, lo a ≤ (j (a.cast h.1.symm)).val * strides a + (y a).val ∧ (j (a.cast h.1.symm)).val * strides a + (y a).val - lo a < s.size a
        then x (fun a => ⟨(j (a.cast h.1.symm)).val * strides a + (y a).val - lo a, (hin a).2⟩) else init (Shape.Idx.first hu) := by
  refine (fold_sum _ _).trans (congrArg _ ?_)
  rw [← Equiv.sum_comp (⟨s.rank, window⟩ : Shape).rowMajor]
  simp only [Equiv.symm_apply_apply]

/-- The window's positions are those of its last axis. -/
def lastIx : Fin 512 ≃ (⟨3, ![1, 1, 512]⟩ : Shape).Idx where
  toFun k := ix3 (n0 := 1) (n1 := 1) (n2 := 512) 0 0 k
  invFun y := y 2
  left_inv k := rfl
  right_inv y := funext fun a => match a with
    | ⟨0, _⟩ => (Subsingleton.elim (α := Fin 1) _ _)
    | ⟨1, _⟩ => (Subsingleton.elim (α := Fin 1) _ _)
    | ⟨2, _⟩ => rfl

/-- The running sum along the sequence. -/
theorem scan_at (x : FVec Ideal S32x512x512 .f32) (v : FVec Ideal S_ .f32) (hv : ∀ i, v i = 0) (b : Fin 32) (f j : Fin 512) :
    Host.reduceWindowAdd ![1, 1, 512] ![1, 1, 1] ![0, 0, 511] ![0, 0, 0] x v
      reduceWindows_S32x512x512_S32x512x512_w1s1p0_0_w1s1p0_0_w512s1p511_0 h_S_ (ix3 (n0 := 32) (n1 := 512) (n2 := 512) b f j)
      = ∑ s : Fin 512, if s.val ≤ j.val then x (ix3 (n0 := 32) (n1 := 512) (n2 := 512) b f s) else 0 := by
  classical
  rw [window_at, hv, zero_add]
  refine (Equiv.sum_comp lastIx _).symm.trans ?_
  have e : ∀ k : Fin 512, (if hin : ∀ a : Fin 3, (![0, 0, 511] : Fin 3 → Nat) a ≤ (ix3 (n0 := 32) (n1 := 512) (n2 := 512) b f j a).val * (![1, 1, 1] : Fin 3 → Nat) a + (lastIx k a).val
          ∧ (ix3 (n0 := 32) (n1 := 512) (n2 := 512) b f j a).val * (![1, 1, 1] : Fin 3 → Nat) a + (lastIx k a).val - (![0, 0, 511] : Fin 3 → Nat) a < S32x512x512.size a
        then x (fun a => ⟨(ix3 (n0 := 32) (n1 := 512) (n2 := 512) b f j a).val * (![1, 1, 1] : Fin 3 → Nat) a + (lastIx k a).val - (![0, 0, 511] : Fin 3 → Nat) a, (hin a).2⟩) else 0)
      = if h : 511 ≤ j.val + k.val then x (ix3 (n0 := 32) (n1 := 512) (n2 := 512) b f ⟨j.val + k.val - 511, by omega⟩) else 0 := by
    intro k
    by_cases h : 511 ≤ j.val + k.val
    · have hin : ∀ a : Fin 3, (![0, 0, 511] : Fin 3 → Nat) a ≤ (ix3 (n0 := 32) (n1 := 512) (n2 := 512) b f j a).val * (![1, 1, 1] : Fin 3 → Nat) a + (lastIx k a).val
          ∧ (ix3 (n0 := 32) (n1 := 512) (n2 := 512) b f j a).val * (![1, 1, 1] : Fin 3 → Nat) a + (lastIx k a).val - (![0, 0, 511] : Fin 3 → Nat) a < S32x512x512.size a := by
        intro a
        match a with
        | ⟨0, _⟩ => exact ⟨Nat.zero_le _, by show b.val * 1 + 0 - 0 < 32; omega⟩
        | ⟨1, _⟩ => exact ⟨Nat.zero_le _, by show f.val * 1 + 0 - 0 < 512; omega⟩
        | ⟨2, _⟩ => exact ⟨by show 511 ≤ j.val * 1 + k.val; omega, by show j.val * 1 + k.val - 511 < 512; omega⟩
      rw [dif_pos hin, dif_pos h]
      refine congrArg x (funext fun a => Fin.ext ?_)
      match a with
      | ⟨0, _⟩ => show b.val * 1 + 0 - 0 = b.val; omega
      | ⟨1, _⟩ => show f.val * 1 + 0 - 0 = f.val; omega
      | ⟨2, _⟩ => show j.val * 1 + k.val - 511 = j.val + k.val - 511; omega
    · rw [dif_neg h, dif_neg]
      intro hin
      have h2 : 511 ≤ j.val * 1 + k.val := (hin 2).1
      omega
  refine (Finset.sum_congr rfl fun k _ => e k).trans ?_
  refine Finset.sum_bij_ne_zero (fun k _ _ => if h : 511 ≤ j.val + k.val then ⟨j.val + k.val - 511, by omega⟩ else k) (fun _ _ _ => Finset.mem_univ _) ?_ ?_ ?_
  · intro k _ hk k' _ hk' h
    have a1 : 511 ≤ j.val + k.val := by by_contra c; exact hk (dif_neg c)
    have a2 : 511 ≤ j.val + k'.val := by by_contra c; exact hk' (dif_neg c)
    rw [dif_pos a1, dif_pos a2] at h
    have := congrArg Fin.val h
    simp only at this
    exact Fin.ext (by omega)
  · intro s _ hs
    have a1 : s.val ≤ j.val := by by_contra c; exact hs (if_neg c)
    have a2 : 511 ≤ j.val + (s.val + 511 - j.val) := by omega
    have a3 : (⟨j.val + (s.val + 511 - j.val) - 511, by omega⟩ : Fin 512) = s := Fin.ext (by simp only; omega)
    refine ⟨⟨s.val + 511 - j.val, by omega⟩, Finset.mem_univ _, ?_, ?_⟩
    · rw [dif_pos a2, a3]
      rwa [if_pos a1] at hs
    · rw [dif_pos a2, a3]
  · intro k _ hk
    have a1 : 511 ≤ j.val + k.val := by by_contra c; exact hk (dif_neg c)
    rw [dif_pos a1, dif_pos a1, if_pos (by simp only; omega)]

end Cert.ReferenceIdeal.Stages

end
-- ==== Proof.Ref.Point.lean ====
/- The reference's stages read at an index, over the extended reals. -/
module

public import proofs.«01_k».proof.Proof.Ref.Moves

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.SL.Sem Idealize.ShloMosaic.WordCmp

/-- A word below half the range is not negative, so nothing is added to it. -/
theorem select_small (i n : BitVec 32) (h : i.toNat < 2 ^ 31) :
    Scalar.select (IntOp.cmpi .slt i 0#32) (IntOp.addi i n) i = i := by
  rw [cmpi_slt_of_lt (by omega) (by decide), select_ofBool]
  rfl

/-- A small word's start index is the word. -/
theorem toInt_small (i : BitVec 32) (h : i.toNat < 2 ^ 31) : i.toInt.toNat = i.toNat := by
  rw [toInt_eq_toNat_of_lt_half (by omega), Int.toNat_natCast]

/-- The start indices of the words. -/
theorem wordIx_at (a0 : IVec S32x512 32) (b : Fin 32) (s : Fin 512) (h : (a0 (ix2 b s)).toNat < 2 ^ 31) :
    wordIx a0 (ix3 b s 0) = a0 (ix2 b s) := by
  pointwise [wordIx]
  exact select_small _ _ h

/-- The padded sequence: zeros in the first and last rows, the table's rows between. -/
theorem padded_at (a0 : IVec S32x512 32) (a2 : FVec Ideal S50000x300 .f32) (hw : ∀ b s, (a0 (ix2 b s)).toNat < 50000)
    (b : Fin 32) (s : Fin 514) (e : Fin 300) :
    padded a0 a2 (ix3 b s e) = if h : 1 ≤ s.val ∧ s.val - 1 < 512 then a2 (ix2 ⟨(a0 (ix2 b ⟨s.val - 1, h.2⟩)).toNat, hw _ _⟩ e) else 0 := by
  pointwise [padded]
  by_cases h : 1 ≤ s.val ∧ s.val - 1 < 512
  · rw [dif_pos h, dif_pos h, rows_at]
    have hs := hw b ⟨s.val - 1, h.2⟩
    refine congrArg (fun z => a2 (ix2 z e)) (Fin.ext ?_)
    show min (wordIx a0 (ix3 b ⟨s.val - 1, h.2⟩ 0)).toInt.toNat 49999 = _
    rw [wordIx_at _ _ _ (by omega), toInt_small _ (by omega)]
    exact Nat.min_eq_left (by omega)
  · rw [dif_neg h, dif_neg h]
    show (((0#32 : BitVec 32).toInt : ℝ) : EReal) = 0
    simp

/-- The features of a sequence's rows. -/
theorem feats_at (a0 : IVec S32x512 32) (a2 : FVec Ideal S50000x300 .f32) (hw : ∀ b s, (a0 (ix2 b s)).toNat < 50000)
    (a3 : FVec Ideal S512x1x3x300 .f32) (a4 : FVec Ideal S512 .f32) (b : Fin 32) (f s : Fin 512) :
    feats (padded a0 a2) a3 a4 (ix3 b f s)
      = Cert.Spec.conv (fun s e => a2 (ix2 ⟨(a0 (ix2 b s)).toNat, hw b s⟩ e)) (fun o e => a3 (ix4 f 0 o e)) (a4 (ix1 f)) s := by
  pointwise [feats, tap, zeros]
  unfold Cert.Spec.conv
  have hs := s.isLt
  refine congrArg (max · 0) (congrArg (· + a4 (ix1 f)) (congrArg₂ (· + ·) (congrArg₂ (· + ·) ?_ ?_) ?_)) <;>
    refine Finset.sum_congr rfl fun e _ => ?_ <;> rw [mul_comm, padded_at a0 a2 hw] <;> refine congrArg (· * _) ?_
  · by_cases h : s.val < 1
    · rw [dif_neg (by simp only; omega), dif_pos h]
    · rw [dif_pos (by simp only; omega), dif_neg h]
  · rw [dif_pos (by simp only; omega)]
    have h1 : (⟨1 + s.val - 1, by omega⟩ : Fin 512) = s := Fin.ext (by simp only; omega)
    simp only [h1]
  · by_cases h : s.val < 511
    · rw [dif_pos (by simp only; omega), dif_pos h]
      have h1 : (⟨2 + s.val - 1, by omega⟩ : Fin 512) = ⟨1 + s.val, by omega⟩ := Fin.ext (by simp only; omega)
      simp only [h1]
    · rw [dif_neg (by simp only; omega), dif_neg h]

/-- The spans' starts. -/
theorem starts_at (a1 : IVec S32x512x2 32) (b : Fin 32) (t : Fin 512) : starts a1 (ix2 b t) = a1 (ix3 b t 0) := by
  pointwise [starts]

/-- The spans' ends. -/
theorem ends_at (a1 : IVec S32x512x2 32) (b : Fin 32) (t : Fin 512) : ends a1 (ix2 b t) = a1 (ix3 b t 1) := by
  pointwise [ends]

/-- The spans' last positions. -/
theorem lasts_at (a1 : IVec S32x512x2 32) (b : Fin 32) (t : Fin 512) : lasts a1 (ix2 b t) = IntOp.subi (a1 (ix3 b t 1)) 1#32 := by
  pointwise [lasts, ends]

/-- The start indices of positions. -/
theorem posIx_at (n : BitVec 32) (i : IVec S32x512 32) (b : Fin 32) (t : Fin 512) (h : (i (ix2 b t)).toNat < 2 ^ 31) :
    posIx n i (ix3 b t 0) = i (ix2 b t) := by
  pointwise [posIx]
  exact select_small _ _ h

/-- A start index between zero and the bound is inside. -/
theorem inside_at (n : BitVec 32) (hn : n.toNat < 2 ^ 31) (i : IVec S32x512x1 32) (b : Fin 32) (f t : Fin 512)
    (h : (i (ix3 b t 0)).toNat ≤ n.toNat) : inside n i (ix3 b f t) = 1#1 := by
  pointwise [inside]
  rw [Finset.univ_unique, Finset.fold_singleton]
  show IntOp.andi (IntOp.andi (IntOp.cmpi .sge (i (ix3 b t 0)) 0#32) (IntOp.cmpi .sle (i (ix3 b t 0)) n)) 1#1 = 1#1
  rw [cmpi_sge_of_lt (by omega) (by decide), cmpi_sle_of_lt (by omega) (by omega)]
  simp [h, IntOp.andi]

/-- The features at a position. -/
theorem take_at (x : FVec Ideal S32x512x512 .f32) (i : IVec S32x512 32) (b : Fin 32) (f t : Fin 512) (h : (i (ix2 b t)).toNat < 512) :
    take x i (ix3 b f t) = x (ix3 b f ⟨(i (ix2 b t)).toNat, h⟩) := by
  pointwise [take]
  have e : posIx 512#32 i (ix3 b t 0) = i (ix2 b t) := posIx_at _ _ _ _ (by omega)
  rw [inside_at _ (by decide) _ _ _ _ (by rw [e]; show _ ≤ 511; omega), select_one, along_at]
  refine congrArg (fun z => x (ix3 b f z)) (Fin.ext ?_)
  show min (posIx 512#32 i (ix3 b t 0)).toInt.toNat 511 = _
  rw [e, toInt_small _ (by omega)]
  exact Nat.min_eq_left (by omega)

/-- The prefix sums at a position. -/
theorem takeSum_at (x : FVec Ideal S32x512x513 .f32) (i : IVec S32x512 32) (b : Fin 32) (f t : Fin 512) (h : (i (ix2 b t)).toNat < 513) :
    takeSum x i (ix3 b f t) = x (ix3 b f ⟨(i (ix2 b t)).toNat, h⟩) := by
  pointwise [takeSum]
  have e : posIx 513#32 i (ix3 b t 0) = i (ix2 b t) := posIx_at _ _ _ _ (by omega)
  rw [inside_at _ (by decide) _ _ _ _ (by rw [e]; show _ ≤ 512; omega), select_one, along_sums_at]
  refine congrArg (fun z => x (ix3 b f z)) (Fin.ext ?_)
  show min (posIx 513#32 i (ix3 b t 0)).toInt.toNat 512 = _
  rw [e, toInt_small _ (by omega)]
  exact Nat.min_eq_left (by omega)

/-- The prefix sums are sums over the positions before. -/
theorem sums_at (x : FVec Ideal S32x512x512 .f32) (b : Fin 32) (f : Fin 512) (p : Fin 513) :
    sums x (ix3 b f p) = Cert.Spec.pre (fun s => x (ix3 b f s)) p.val := by
  pointwise [sums]
  unfold Cert.Spec.pre
  by_cases h : p.val < 1
  · rw [dif_pos h]
    exact (Finset.sum_eq_zero fun s _ => if_neg (by omega)).symm
  · rw [dif_neg h, scan_at _ _ (fun i => by pointwise)]
    refine Finset.sum_congr rfl fun s _ => ?_
    simp only [show s.val ≤ p.val - 1 ↔ s.val < p.val by omega]

/-- The spans' means. -/
theorem means_at (x : FVec Ideal S32x512x512 .f32) (a1 : IVec S32x512x2 32) (b : Fin 32) (f t : Fin 512)
    (h0 : (a1 (ix3 b t 0)).toNat < 513) (h1 : (a1 (ix3 b t 1)).toNat < 513) :
    means x a1 (ix3 b f t) = Ideal.div (Cert.Spec.pre (fun s => x (ix3 b f s)) (a1 (ix3 b t 1)).toNat - Cert.Spec.pre (fun s => x (ix3 b f s)) (a1 (ix3 b t 0)).toNat)
      (FloatOps.sitofp (F := Ideal) .f32 (IntOp.subi (a1 (ix3 b t 1)) (a1 (ix3 b t 0)))) := by
  pointwise [means]
  rw [takeSum_at _ _ _ _ _ (by rw [ends_at]; exact h1), takeSum_at _ _ _ _ _ (by rw [starts_at]; exact h0), sums_at, sums_at]
  simp only [ends_at, starts_at]

/-- The two layers on the pooled spans of features. -/
theorem dense_at (x : FVec Ideal S32x512x512 .f32) (a1 : IVec S32x512x2 32) (a5 : FVec Ideal S1536x1536 .f32) (a6 : FVec Ideal S1536 .f32)
    (a7 : FVec Ideal S8x1536 .f32) (a8 : FVec Ideal S8 .f32) (b : Fin 32) (t : Fin 512) (l : Fin 8) :
    dense (pooled x a1) a5 a6 a7 a8 (ix2 ⟨512 * b.val + t.val, by omega⟩ l)
      = (∑ h : Fin 1536, Cert.Spec.layer (fun f => take x (starts a1) (ix3 b f t)) (fun f => means x a1 (ix3 b f t))
          (fun f => take x (lasts a1) (ix3 b f t)) (fun k => a5 (ix2 h k)) (a6 (ix1 h)) * a7 (ix2 l h)) + a8 (ix1 l) := by
  pointwise [dense, pooled]
  refine congrArg (· + a8 (ix1 l)) (Finset.sum_congr rfl fun h _ => congrArg (· * a7 (ix2 l h)) ?_)
  unfold Cert.Spec.layer
  have hb : (⟨(512 * b.val + t.val) / 512, by omega⟩ : Fin 32) = b := Fin.ext (by simp only; omega)
  have ht : (⟨(512 * b.val + t.val) % 512, by omega⟩ : Fin 512) = t := Fin.ext (by simp only; omega)
  rw [Cert.Spec.sum_thirds]
  refine congrArg (max · 0) (congrArg (· + a6 (ix1 h)) (congrArg₂ (· + ·) (congrArg₂ (· + ·) ?_ ?_) ?_)) <;>
    refine Finset.sum_congr rfl fun f _ => congrArg (· * _) ?_
  · rw [dif_pos f.isLt]
  · have hf : (⟨512 + f.val - 512, by omega⟩ : Fin 512) = f := Fin.ext (by simp only; omega)
    rw [dif_neg (by simp only; omega), dif_pos (by simp only; omega)]
    simp only [hb, ht, hf]
  · have hf : (⟨1024 + f.val - 512 - 512, by omega⟩ : Fin 512) = f := Fin.ext (by simp only; omega)
    rw [dif_neg (by simp only; omega), dif_neg (by simp only; omega)]
    simp only [hb, ht, hf]

/-- The reference's result at a span. -/
theorem ref_at (a0 : IVec S32x512 32) (a1 : IVec S32x512x2 32) (a2 : FVec Ideal S50000x300 .f32) (a3 : FVec Ideal S512x1x3x300 .f32) (a4 : FVec Ideal S512 .f32)
    (a5 : FVec Ideal S1536x1536 .f32) (a6 : FVec Ideal S1536 .f32) (a7 : FVec Ideal S8x1536 .f32) (a8 : FVec Ideal S8 .f32)
    (hw : ∀ b s, (a0 (ix2 b s)).toNat < 50000) (hse : ∀ b t, (a1 (ix3 b t 0)).toNat < (a1 (ix3 b t 1)).toNat) (he : ∀ b t, (a1 (ix3 b t 1)).toNat ≤ 512)
    (b : Fin 32) (t : Fin 512) (l : Fin 8) :
    dense (pooled (feats (padded a0 a2) a3 a4) a1) a5 a6 a7 a8 (ix2 ⟨512 * b.val + t.val, by omega⟩ l)
      = Cert.Spec.out (fun s e => a2 (ix2 ⟨(a0 (ix2 b s)).toNat, hw b s⟩ e)) (fun f o e => a3 (ix4 f 0 o e)) (fun f => a4 (ix1 f))
        (a1 (ix3 b t 0)) (a1 (ix3 b t 1)) (lt_of_lt_of_le (hse b t) (he b t)) (Cert.Spec.last_lt _ _ (hse b t) (he b t))
        (fun h k => a5 (ix2 h k)) (fun h => a6 (ix1 h)) (fun h => a7 (ix2 l h)) (a8 (ix1 l)) := by
  have h1 := he b t
  have h2 := hse b t
  have h3 := Cert.Spec.last_lt _ _ (hse b t) (he b t)
  rw [dense_at]
  unfold Cert.Spec.out
  refine congrArg (· + a8 (ix1 l)) (Finset.sum_congr rfl fun h _ => congrArg (· * a7 (ix2 l h)) ?_)
  have e1 : ∀ f, take (feats (padded a0 a2) a3 a4) (starts a1) (ix3 b f t) = _ := fun f =>
    take_at (feats (padded a0 a2) a3 a4) (starts a1) b f t (by rw [starts_at]; omega)
  have e2 : ∀ f, take (feats (padded a0 a2) a3 a4) (lasts a1) (ix3 b f t) = _ := fun f =>
    take_at (feats (padded a0 a2) a3 a4) (lasts a1) b f t (by rw [lasts_at]; exact h3)
  have e3 : ∀ f, means (feats (padded a0 a2) a3 a4) a1 (ix3 b f t) = _ := fun f =>
    means_at (feats (padded a0 a2) a3 a4) a1 b f t (by omega) (by omega)
  simp only [e1, e2, e3, feats_at a0 a2 hw, starts_at, lasts_at]

end Cert.ReferenceIdeal.Stages

end
-- ==== Proof.KI.Value.lean ====
/- What the output array holds when the region is done: the reference's result, row by row. -/
module

public import proofs.«01_k».proof.Proof.KI.Table
public import proofs.«01_k».proof.Proof.KI.Point
public import proofs.«01_k».proof.Proof.Ref.Point
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-! ## The windows' index maps -/

/-- A table of zeros: no index map reads the table, so facts of the maps are decided at this one. -/
abbrev adm0 : (pcfg0 (F := Ideal)).Adm := ⟨fun j => match j with | ⟨0, _⟩ => fun _ => (0#32 : BitVec 32), trivial⟩

/-- The output's blocks cover it. -/
theorem covers0 : ((cfg0 adm0).win 8).Covers := by decide +kernel

/-- The weights' and the biases' block is the whole array; a span's and the output's is the point's. -/
theorem index0 : ∀ t : Fin (cfg0 adm0).N, ((cfg0 adm0).win 0).index t = ![0, 0, 0] ∧ ((cfg0 adm0).win 1).index t = ![0, 0]
    ∧ ((cfg0 adm0).win 2).index t = ![t.val, 0, 0] ∧ ((cfg0 adm0).win 3).index t = ![t.val, 0, 0]
    ∧ ((cfg0 adm0).win 4).index t = ![0, 0] ∧ ((cfg0 adm0).win 5).index t = ![0, 0] ∧ ((cfg0 adm0).win 6).index t = ![0, 0]
    ∧ ((cfg0 adm0).win 7).index t = ![0, 0] ∧ ((cfg0 adm0).win 8).index t = ![t.val, 0, 0] := by decide +kernel

/-- The same at the program's own table. -/
theorem index_at (t : Fin (cfgM m).N) : ((cfgM m).win 0).index t = ![0, 0, 0] ∧ ((cfgM m).win 1).index t = ![0, 0]
    ∧ ((cfgM m).win 2).index t = ![t.val, 0, 0] ∧ ((cfgM m).win 3).index t = ![t.val, 0, 0]
    ∧ ((cfgM m).win 4).index t = ![0, 0] ∧ ((cfgM m).win 5).index t = ![0, 0] ∧ ((cfgM m).win 6).index t = ![0, 0]
    ∧ ((cfgM m).win 7).index t = ![0, 0] ∧ ((cfgM m).win 8).index t = ![t.val, 0, 0] := index0 t

/-! ## The input blocks -/

/-- The convolution's weights. -/
theorem iblk_0 (c : Dev nD) (t : Fin (cfgM m).N) : (iblk m c 0 t : Vec Ideal S3x300x512 .f32) = V m c main_v2 := by
  funext y
  refine congrArg (V m c main_v2) (funext fun a => Fin.ext ?_)
  refine (show _ = ((cfgM m).win 0).index t a * S3x300x512.size a + 1 * (y a).val from rfl).trans ?_
  rw [(index_at m t).1]
  match a with
  | ⟨0, _⟩ => show 0 * 3 + 1 * _ = _; omega
  | ⟨1, _⟩ => show 0 * 300 + 1 * _ = _; omega
  | ⟨2, _⟩ => show 0 * 512 + 1 * _ = _; omega

/-- The convolution's bias. -/
theorem iblk_1 (c : Dev nD) (t : Fin (cfgM m).N) : (iblk m c 1 t : Vec Ideal S1x512 .f32) = V m c main_v9 := by
  funext y
  refine congrArg (V m c main_v9) (funext fun a => Fin.ext ?_)
  refine (show _ = ((cfgM m).win 1).index t a * S1x512.size a + 1 * (y a).val from rfl).trans ?_
  rw [(index_at m t).2.1]
  match a with
  | ⟨0, _⟩ => show 0 * 1 + 1 * _ = _; omega
  | ⟨1, _⟩ => show 0 * 512 + 1 * _ = _; omega

/-- The starts of the point's spans. -/
theorem iblk_2 (c : Dev nD) (t : Fin (cfgM m).N) (s : Fin 512) :
    (iblk m c 2 t : Vec Ideal S1x1x512 .i32) (ix3 0 0 s) = V m c main_v5 (ix3 (n0 := 32) (t.cast N_0) 0 s) := by
  refine congrArg (V m c main_v5) (funext fun a => Fin.ext ?_)
  refine (show _ = ((cfgM m).win 2).index t a * S1x1x512.size a + 1 * (ix3 (n0 := 1) (n1 := 1) (n2 := 512) 0 0 s a).val from rfl).trans ?_
  rw [(index_at m t).2.2.1]
  match a with
  | ⟨0, _⟩ => show t.val * 1 + 1 * 0 = t.val; omega
  | ⟨1, _⟩ => show 0 * 1 + 1 * 0 = 0; omega
  | ⟨2, _⟩ => show 0 * 512 + 1 * s.val = s.val; omega

/-- Their ends. -/
theorem iblk_3 (c : Dev nD) (t : Fin (cfgM m).N) (s : Fin 512) :
    (iblk m c 3 t : Vec Ideal S1x1x512 .i32) (ix3 0 0 s) = V m c main_v8 (ix3 (n0 := 32) (t.cast N_0) 0 s) := by
  refine congrArg (V m c main_v8) (funext fun a => Fin.ext ?_)
  refine (show _ = ((cfgM m).win 3).index t a * S1x1x512.size a + 1 * (ix3 (n0 := 1) (n1 := 1) (n2 := 512) 0 0 s a).val from rfl).trans ?_
  rw [(index_at m t).2.2.2.1]
  match a with
  | ⟨0, _⟩ => show t.val * 1 + 1 * 0 = t.val; omega
  | ⟨1, _⟩ => show 0 * 1 + 1 * 0 = 0; omega
  | ⟨2, _⟩ => show 0 * 512 + 1 * s.val = s.val; omega

/-- The first layer's weights. -/
theorem iblk_4 (c : Dev nD) (t : Fin (cfgM m).N) : (iblk m c 4 t : Vec Ideal S1536x1536 .f32) = V m c main_v10 := by
  funext y
  refine congrArg (V m c main_v10) (funext fun a => Fin.ext ?_)
  refine (show _ = ((cfgM m).win 4).index t a * S1536x1536.size a + 1 * (y a).val from rfl).trans ?_
  rw [(index_at m t).2.2.2.2.1]
  match a with
  | ⟨0, _⟩ => show 0 * 1536 + 1 * _ = _; omega
  | ⟨1, _⟩ => show 0 * 1536 + 1 * _ = _; omega

/-- The first layer's bias. -/
theorem iblk_5 (c : Dev nD) (t : Fin (cfgM m).N) : (iblk m c 5 t : Vec Ideal S1x1536 .f32) = V m c main_v11 := by
  funext y
  refine congrArg (V m c main_v11) (funext fun a => Fin.ext ?_)
  refine (show _ = ((cfgM m).win 5).index t a * S1x1536.size a + 1 * (y a).val from rfl).trans ?_
  rw [(index_at m t).2.2.2.2.2.1]
  match a with
  | ⟨0, _⟩ => show 0 * 1 + 1 * _ = _; omega
  | ⟨1, _⟩ => show 0 * 1536 + 1 * _ = _; omega

/-- The second layer's weights. -/
theorem iblk_6 (c : Dev nD) (t : Fin (cfgM m).N) : (iblk m c 6 t : Vec Ideal S1536x8 .f32) = V m c main_v12 := by
  funext y
  refine congrArg (V m c main_v12) (funext fun a => Fin.ext ?_)
  refine (show _ = ((cfgM m).win 6).index t a * S1536x8.size a + 1 * (y a).val from rfl).trans ?_
  rw [(index_at m t).2.2.2.2.2.2.1]
  match a with
  | ⟨0, _⟩ => show 0 * 1536 + 1 * _ = _; omega
  | ⟨1, _⟩ => show 0 * 8 + 1 * _ = _; omega

/-- The second layer's bias. -/
theorem iblk_7 (c : Dev nD) (t : Fin (cfgM m).N) : (iblk m c 7 t : Vec Ideal S1x8 .f32) = V m c main_v13 := by
  funext y
  refine congrArg (V m c main_v13) (funext fun a => Fin.ext ?_)
  refine (show _ = ((cfgM m).win 7).index t a * S1x8.size a + 1 * (y a).val from rfl).trans ?_
  rw [(index_at m t).2.2.2.2.2.2.2.1]
  match a with
  | ⟨0, _⟩ => show 0 * 1 + 1 * _ = _; omega
  | ⟨1, _⟩ => show 0 * 8 + 1 * _ = _; omega

/-! ## The arrays the region finds, read at an index -/

/-- A word of the table is a word of the argument. -/
theorem word_at (b : Fin 32) (s : Fin 512) :
    word (words m) b s = (m (((0 : Dev nD).tc : Thread nD τ).loc main_arg0) : IVec S32x512 32) (ix2 b s) := by
  refine (congrFun (V_main_v0 m 0) _).trans ?_
  generalize (m (((0 : Dev nD).tc : Thread nD τ).loc main_arg0) : IVec S32x512 32) = x
  pointwise

/-- The weights without their unit axis. -/
theorem taps_cast (x : FVec Ideal S512x1x3x300 .f32) (f : Fin 512) (o : Fin 3) (e : Fin 300) :
    shapeCast S512x3x300 x shapeCasts_S512x1x3x300_S512x3x300 (ix3 f o e) = x (ix4 f 0 o e) := by
  pointwise

/-- The weights, the filter's axis moved last. -/
theorem taps_move (x : FVec Ideal S512x3x300 .f32) (f : Fin 512) (o : Fin 3) (e : Fin 300) :
    transpose S3x300x512 [1, 2, 0] x transposes_S512x3x300_S3x300x512_1_2_0 (ix3 o e f) = x (ix3 f o e) := by
  pointwise

/-- The convolution's weights, tap by tap. -/
theorem v2_at (c : Dev nD) (o : Fin 3) (e : Fin 300) (f : Fin 512) :
    V m c main_v2 (ix3 (n0 := 3) (n1 := 300) (n2 := 512) o e f) = (m ((c.tc : Thread nD τ).loc main_arg3) : FVec Ideal S512x1x3x300 .f32) (ix4 f 0 o e) := by
  exact (congrFun (V_main_v2 m c) _).trans ((taps_move _ f o e).trans (taps_cast _ f o e))

/-- The spans' starts. -/
theorem v5_at (c : Dev nD) (b : Fin 32) (t : Fin 512) :
    V m c main_v5 (ix3 (n0 := 32) (n1 := 1) (n2 := 512) b 0 t) = (m ((c.tc : Thread nD τ).loc main_arg1) : IVec S32x512x2 32) (ix3 b t 0) := by
  refine (congrFun (V_main_v5 m c) _).trans ?_
  generalize (m ((c.tc : Thread nD τ).loc main_arg1) : IVec S32x512x2 32) = x
  pointwise

/-- The spans' ends. -/
theorem v8_at (c : Dev nD) (b : Fin 32) (t : Fin 512) :
    V m c main_v8 (ix3 (n0 := 32) (n1 := 1) (n2 := 512) b 0 t) = (m ((c.tc : Thread nD τ).loc main_arg1) : IVec S32x512x2 32) (ix3 b t 1) := by
  refine (congrFun (V_main_v8 m c) _).trans ?_
  generalize (m ((c.tc : Thread nD τ).loc main_arg1) : IVec S32x512x2 32) = x
  pointwise

/-- The convolution's bias. -/
theorem v9_at (c : Dev nD) (f : Fin 512) :
    V m c main_v9 (ix2 (n0 := 1) (n1 := 512) 0 f) = (m ((c.tc : Thread nD τ).loc main_arg4) : FVec Ideal S512 .f32) (ix1 f) := by
  refine (congrFun (V_main_v9 m c) _).trans ?_
  generalize (m ((c.tc : Thread nD τ).loc main_arg4) : FVec Ideal S512 .f32) = x
  pointwise

/-- The first layer's weights. -/
theorem v10_at (c : Dev nD) (k h : Fin 1536) :
    V m c main_v10 (ix2 (n0 := 1536) (n1 := 1536) k h) = (m ((c.tc : Thread nD τ).loc main_arg5) : FVec Ideal S1536x1536 .f32) (ix2 h k) := by
  refine (congrFun (V_main_v10 m c) _).trans ?_
  generalize (m ((c.tc : Thread nD τ).loc main_arg5) : FVec Ideal S1536x1536 .f32) = x
  pointwise

/-- The first layer's bias. -/
theorem v11_at (c : Dev nD) (h : Fin 1536) :
    V m c main_v11 (ix2 (n0 := 1) (n1 := 1536) 0 h) = (m ((c.tc : Thread nD τ).loc main_arg6) : FVec Ideal S1536 .f32) (ix1 h) := by
  refine (congrFun (V_main_v11 m c) _).trans ?_
  generalize (m ((c.tc : Thread nD τ).loc main_arg6) : FVec Ideal S1536 .f32) = x
  pointwise

/-- The second layer's weights. -/
theorem v12_at (c : Dev nD) (h : Fin 1536) (l : Fin 8) :
    V m c main_v12 (ix2 (n0 := 1536) (n1 := 8) h l) = (m ((c.tc : Thread nD τ).loc main_arg7) : FVec Ideal S8x1536 .f32) (ix2 l h) := by
  refine (congrFun (V_main_v12 m c) _).trans ?_
  generalize (m ((c.tc : Thread nD τ).loc main_arg7) : FVec Ideal S8x1536 .f32) = x
  pointwise

/-- The second layer's bias. -/
theorem v13_at (c : Dev nD) (l : Fin 8) :
    V m c main_v13 (ix2 (n0 := 1) (n1 := 8) 0 l) = (m ((c.tc : Thread nD τ).loc main_arg8) : FVec Ideal S8 .f32) (ix1 l) := by
  refine (congrFun (V_main_v13 m c) _).trans ?_
  generalize (m ((c.tc : Thread nD τ).loc main_arg8) : FVec Ideal S8 .f32) = x
  pointwise

/-! ## The output -/

/-- The reference's stages on the kernel's arguments. -/
def target (c : Dev nD) : FVec Ideal S16384x8 .f32 :=
  Cert.ReferenceIdeal.Stages.dense (Cert.ReferenceIdeal.Stages.pooled (Cert.ReferenceIdeal.Stages.feats
      (Cert.ReferenceIdeal.Stages.padded (m ((c.tc : Thread nD τ).loc main_arg0)) (m ((c.tc : Thread nD τ).loc main_arg2)))
      (m ((c.tc : Thread nD τ).loc main_arg3)) (m ((c.tc : Thread nD τ).loc main_arg4))) (m ((c.tc : Thread nD τ).loc main_arg1)))
    (m ((c.tc : Thread nD τ).loc main_arg5)) (m ((c.tc : Thread nD τ).loc main_arg6)) (m ((c.tc : Thread nD τ).loc main_arg7))
    (m ((c.tc : Thread nD τ).loc main_arg8))

/-- What the inputs must satisfy: words that are rows of the matrix, nonempty spans within the sequence, and finite
    embeddings, taps and biases. -/
structure Good (c : Dev nD) : Prop where
  words : ∀ (b : Fin 32) (s : Fin 512), ((m ((c.tc : Thread nD τ).loc main_arg0) : IVec S32x512 32) (ix2 b s)).toNat < 50000
  span : ∀ (b : Fin 32) (t : Fin 512), ((m ((c.tc : Thread nD τ).loc main_arg1) : IVec S32x512x2 32) (ix3 b t 0)).toNat
    < ((m ((c.tc : Thread nD τ).loc main_arg1) : IVec S32x512x2 32) (ix3 b t 1)).toNat
  fits : ∀ (b : Fin 32) (t : Fin 512), ((m ((c.tc : Thread nD τ).loc main_arg1) : IVec S32x512x2 32) (ix3 b t 1)).toNat ≤ 512
  rows : ∀ i, Cert.Spec.Real' ((m ((c.tc : Thread nD τ).loc main_arg2) : FVec Ideal S50000x300 .f32) i)
  taps : ∀ i, Cert.Spec.Real' ((m ((c.tc : Thread nD τ).loc main_arg3) : FVec Ideal S512x1x3x300 .f32) i)
  bias : ∀ i, Cert.Spec.Real' ((m ((c.tc : Thread nD τ).loc main_arg4) : FVec Ideal S512 .f32) i)

/-- A row the kernel gathers is the matrix's row of its word. -/
theorem rows_read (hO : Ok m) (c : Dev nD) (t : Fin (cfgM m).N) (s : Fin 512) (e : Fin 300)
    (h : ((m ((c.tc : Thread nD τ).loc main_arg0) : IVec S32x512 32) (ix2 (t.cast N_0) s)).toNat < 50000) :
    rowsAt m hO c t (ix3 (n0 := 1) (n1 := 512) (n2 := 300) 0 s e)
      = (m ((c.tc : Thread nD τ).loc main_arg2) : FVec Ideal S50000x300 .f32)
          (ix2 ⟨((m ((c.tc : Thread nD τ).loc main_arg0) : IVec S32x512 32) (ix2 (t.cast N_0) s)).toNat, h⟩ e) := by
  obtain rfl : c = 0 := Subsingleton.elim _ _
  refine (congrFun (V_main_arg2 m 0) _).trans ?_
  refine congrArg (fun z => (m (((0 : Dev nD).tc : Thread nD τ).loc main_arg2) : FVec Ideal S50000x300 .f32) (ix2 z e)) (Fin.ext ?_)
  exact congrArg BitVec.toNat (word_at m (t.cast N_0) s)

/-- The body's output block holds the reference's rows of its point. -/
theorem outAt_at (hO : Ok m) (c : Dev nD) (hG : Good m c) (t : Fin (cfgM m).N) (s : Fin 512) (l : Fin 8) :
    outAt m hO c t (ix3 (n0 := 1) (n1 := 512) (n2 := 8) 0 s l)
      = target m c (ix2 (n0 := 16384) (n1 := 8) ⟨512 * (t.cast N_0).val + s.val, by have := (t.cast N_0).isLt; omega⟩ l) := by
  have e2 := iblk_2 m c t s
  have e3 := iblk_3 m c t s
  rw [v5_at] at e2
  rw [v8_at] at e3
  unfold outAt target
  refine (outBlk_at _ _ _ _ _ _ _ _ _ s l ?_ ?_ ?_ ?_ ?_).trans (Eq.trans ?_
    (Cert.ReferenceIdeal.Stages.ref_at _ _ _ _ _ _ _ _ _ hG.words hG.span hG.fits (t.cast N_0) s l).symm)
  · intro s e
    rw [rows_read m hO c t s e (hG.words _ _)]; exact hG.rows _
  · intro o e f
    rw [iblk_0, v2_at]; exact hG.taps _
  · intro f
    rw [iblk_1, v9_at]; exact hG.bias _
  · rw [e2, e3]; exact hG.span _ _
  · rw [e3]; exact hG.fits _ _
  · refine Cert.Spec.out_congr (funext fun s => funext fun e => rows_read m hO c t s e (hG.words _ _))
      (funext fun f => funext fun o => funext fun e => ?_) (funext fun f => ?_) e2 e3 _ _ _ _
      (funext fun h => funext fun k => ?_) (funext fun h => ?_) (funext fun h => ?_) ?_
    · rw [iblk_0, v2_at]
    · rw [iblk_1, v9_at]
    · rw [iblk_4, v10_at]
    · rw [iblk_5, v11_at]
    · rw [iblk_6, v12_at]
    · rw [iblk_7, v13_at]

/-- The body's output block at any of its indices. -/
theorem outAt_index (hO : Ok m) (c : Dev nD) (hG : Good m c) (t : Fin (cfgM m).N) (y : S1x512x8.Idx) :
    outAt m hO c t y = target m c (ix2 (n0 := 16384) (n1 := 8)
      ⟨512 * t.val + (y 1).val, by have := (t.cast N_0).isLt; have : t.val < 32 := this; have : (y 1).val < 512 := (y 1).isLt; omega⟩ (y 2)) := by
  have hy : y = ix3 (n0 := 1) (n1 := 512) (n2 := 8) 0 (y 1) (y 2) := by
    refine funext fun a => ?_
    match a with
    | ⟨0, _⟩ => exact Subsingleton.elim (α := Fin 1) _ _
    | ⟨1, _⟩ => rfl
    | ⟨2, _⟩ => rfl
  exact (congrArg (outAt m hO c t) hy).trans (outAt_at m hO c hG t (y 1) (y 2))

/-- Where an element of the output's block lies in the array. -/
theorem place (t : Fin (cfgM m).N) (y : S1x512x8.Idx) (a : Fin 3) :
    (((((cfgM m).win 8).blk t).view.emb y a : Fin _) : ℕ) = (![t.val, 0, 0] : Fin 3 → ℕ) a * S1x512x8.size a + 1 * (y a).val := by
  obtain ⟨-, -, -, -, -, -, -, -, e8⟩ := index_at m t
  refine (show _ = ((cfgM m).win 8).index t a * S1x512x8.size a + 1 * (y a).val from rfl).trans ?_
  rw [e8]

/-- The reference's result, sequence by sequence. -/
def stacked (x : FVec Ideal S16384x8 .f32) : FVec Ideal S32x512x8 .f32 := fun i => x (ix2 (n0 := 16384) (n1 := 8)
  ⟨512 * (i 0).val + (i 1).val, by have : (i 0).val < 32 := (i 0).isLt; have : (i 1).val < 512 := (i 1).isLt; omega⟩ (i 2))

/-- The output array after the region: the reference's rows, sequence by sequence. -/
theorem array_eq (hO : Ok m) (c : Dev nD) (hG : Good m c) :
    (dats m hO 0 c).arrAt 8 (cfgM m).N = stacked (target m c) := by
  refine (dats m hO 0 c).arrAt_eq_of_covers 8 _ covers0 fun t _ y => ?_
  refine (show _ = outAt m hO c t y from ?_).trans ((outAt_index m hO c hG t y).trans
    (congrArg (target m c) (congrArg₂ (ix2 (n0 := 16384) (n1 := 8)) (Fin.ext ?_) (Fin.ext ?_))))
  · rw [after_8]
    blk_simp
  · have e0 := place m t y 0
    have e1 := place m t y 1
    refine Eq.trans ?_ (congrArg₂ (fun a b => 512 * a + b) e0 e1).symm
    show 512 * t.val + _ = 512 * (t.val * 1 + 1 * _) + (0 * 512 + 1 * _)
    have h0 : (show S1x512x8.Idx from y) 0 = (0 : Fin 1) := Subsingleton.elim (α := Fin 1) _ _
    rw [h0]
    show 512 * t.val + _ = 512 * (t.val * 1 + 1 * 0) + (0 * 512 + 1 * _)
    omega
  · refine Eq.trans ?_ (place m t y 2).symm
    show _ = 0 * 8 + 1 * _
    omega

/-- Laying the sequences end to end gives the array back. -/
theorem unstack (x : FVec Ideal S16384x8 .f32) : shapeCast S16384x8 (stacked x) shapeCasts_S32x512x8_S16384x8 = x := by
  funext i
  have h0 : (i 0).val < 16384 := (i 0).isLt
  have h1 : (i 1).val < 8 := (i 1).isLt
  rw [shapeCast_apply (k := ix3 (n0 := 32) (n1 := 512) (n2 := 8) ⟨(i 0).val / 512, by omega⟩ ⟨(i 0).val % 512, by omega⟩ (i 1))]
  · refine congrArg x (funext fun a => Fin.ext ?_)
    match a with
    | ⟨0, _⟩ => show 512 * ((i 0).val / 512) + (i 0).val % 512 = (i 0).val; omega
    | ⟨1, _⟩ => rfl
  · rw [Shape.rowMajor_val_three, Shape.rowMajor_val_two]
    show ((i 0).val / 512 * 512 + (i 0).val % 512) * 8 + (i 1).val = (i 0).val * 8 + (i 1).val
    omega

/-- The first result is the output array, its sequences end to end. -/
theorem read_v15 (hO : Ok m) (c : Dev nD) :
    final m hO c main_v15 = shapeCast S16384x8 ((dats m hO 0 c).arrAt 8 (cfgM m).N) shapeCasts_S32x512x8_S16384x8 := by
  show StableHlo.after (List.flatten [hostOps1, hostOps1_1]) _ (Proc.devRef .tc main_v15) = _
  simp only [hostOps1, hostOps1_1, List.flatten_cons, List.flatten_nil, List.append_nil, List.cons_append, List.nil_append]
  after_results
  exact congrArg (fun x : FVec Ideal S32x512x8 .f32 => shapeCast S16384x8 x shapeCasts_S32x512x8_S16384x8)
    (Pipeline.withArrays_arr spec0 (show Function.Injective (Pipeline.arrRef spec0) by decide) _ _ _ 8)

/-- The kernel's first result is the reference's. -/
theorem final_v15 (hO : Ok m) (c : Dev nD) (hG : Good m c) : final m hO c main_v15 = target m c := by
  refine (read_v15 m hO c).trans (Eq.trans ?_ (unstack (target m c)))
  exact congrArg (fun x : FVec Ideal S32x512x8 .f32 => shapeCast S16384x8 x shapeCasts_S32x512x8_S16384x8) (array_eq m hO c hG)

/-- The kernel's second result. -/
theorem final_v17 (hO : Ok m) (c : Dev nD) : final m hO c main_v17
    = Host.reduceWindow IntOp.addi ![32] ![1] ![31] ![0] (broadcastInDim S32 ![] bcast_S_S32 (constantI S_ 32 512#32))
        (broadcastInDim S_ ![] bcast_S_S_ (constantI S_ 32 0#32)) reduceWindows_S32_S32_w32s1p31_0 h_S_ := by
  show StableHlo.after (List.flatten [hostOps1, hostOps1_1]) _ (Proc.devRef .tc main_v17) = _
  simp only [hostOps1, hostOps1_1, List.flatten_cons, List.flatten_nil, List.append_nil, List.cons_append, List.nil_append]
  after_results
  simp only [StableHlo.TRef.toBuf, StableHlo.TRef.ofBuf, cast_eq]

end Cert.KernelIdeal.Hand

end
-- ==== Proof.Spans.lean ====
/- What `inputs_in_range` says of the arguments: the words are rows of the embedding matrix, the spans are nonempty and
   lie within the sequence, and the embeddings, the taps and the biases are finite. -/
module

public import proofs.«01_k».proof.Defs
public import proofs.«01_k».proof.Proof.Range
public import proofs.«01_k».proof.Proof.Gen.Pre_inputs_in_range
public import proofs.«01_k».proof.Proof.Spec
public import Idealize.ShloMosaic.Lib.WordCmp
public import Idealize.ShloMosaic.Lib.Pointwise
public import Idealize.ShloMosaic.Lib.ReduceAll

@[expose] public section

set_option maxRecDepth 16384

noncomputable section

namespace Cert.Range

open Idealize.ShloMosaic Idealize.ShloMosaic.WordCmp

variable {F : FTy → Type} [FloatOps F]

/-- Under `inputs_in_range` every word is a row of the embedding matrix. -/
theorem words_of_range {a0 : IVec Pre_inputs_in_range.S32x512 32} {a1 a2 a3 a4 a5 a6 a7 a8}
    (h : Cert.Pre_inputs_in_range.fn (F := F) a0 a1 a2 a3 a4 a5 a6 a7 a8 = fun _ => 1#1) (i) : (a0 i).toNat < 50000 := by
  have h := congrFun h i
  unfold Cert.Pre_inputs_in_range.fn Cert.Pre_inputs_in_range.fn_part1 at h
  exact word_in (both_set _ _ (both_set _ _ h).1).1

/-- A value whose absolute value is below the largest is finite. -/
theorem real_of_abs {x : Ideal .f32}
    (h : FloatOps.cmpf .olt (FloatOps.hostAbsf x) (FloatOps.ofBits (F := Ideal) .f32 0x7F800000#32) = 1#1) : Cert.Spec.Real' x := by
  have htop : Ideal.ofBits .f32 0x7F800000#32 = ⊤ := by simp [Ideal.ofBits, Ideal.ieee]
  have h : BitVec.ofBool (decide (max (x : EReal) (-(x : EReal)) < Ideal.ofBits .f32 0x7F800000#32)) = 1#1 := h
  rw [htop, ofBool_decide_eq_one_iff, max_lt_iff] at h
  refine ⟨EReal.toReal x, (EReal.coe_toReal h.1.ne fun hb => ?_).symm⟩
  exact h.2.ne (by rw [hb]; rfl)

/-- The facts of the words, the spans and the values that `inputs_in_range` states, at one position. -/
theorem range_parts {a0 : IVec Pre_inputs_in_range.S32x512 32} {a1 : IVec Pre_inputs_in_range.S32x512x2 32} {a2 a3 a4 a5 a6 a7 a8}
    (h : Cert.Pre_inputs_in_range.fn (F := Ideal) a0 a1 a2 a3 a4 a5 a6 a7 a8 = fun _ => 1#1) (b : Fin 32) (t : Fin 512) :
    IntOp.cmpi .slt (a1 (ix3 b t 0)) (a1 (ix3 b t 1)) = 1#1 ∧ IntOp.cmpi .sge (a1 (ix3 b t 0)) 0#32 = 1#1
      ∧ IntOp.cmpi .sle (a1 (ix3 b t 1)) 512#32 = 1#1 := by
  have h := congrFun h (ix2 b t)
  pointwise [Cert.Pre_inputs_in_range.fn, Cert.Pre_inputs_in_range.fn_part1] at h
  have h := (both_set _ _ (both_set _ _ (both_set _ _ h).1).2)
  have h1 := both_set _ _ h.1
  exact ⟨h1.2, h1.1, h.2⟩

/-- Under `inputs_in_range` a span is not empty. -/
theorem span_of_range {a0 : IVec Pre_inputs_in_range.S32x512 32} {a1 : IVec Pre_inputs_in_range.S32x512x2 32} {a2 a3 a4 a5 a6 a7 a8}
    (h : Cert.Pre_inputs_in_range.fn (F := Ideal) a0 a1 a2 a3 a4 a5 a6 a7 a8 = fun _ => 1#1) (b : Fin 32) (t : Fin 512) :
    (a1 (ix3 b t 0)).toNat < (a1 (ix3 b t 1)).toNat := by
  obtain ⟨h1, h2, h3⟩ := range_parts h b t
  have h1 := lt_of_slt h1
  have h2 := le_of_sge h2
  rw [show (0#32 : BitVec 32).toInt = 0 from by decide] at h2
  rw [toInt_nonneg (h2.trans h1.le), toInt_nonneg h2] at h1
  omega

/-- Under `inputs_in_range` a span ends within the sequence. -/
theorem fits_of_range {a0 : IVec Pre_inputs_in_range.S32x512 32} {a1 : IVec Pre_inputs_in_range.S32x512x2 32} {a2 a3 a4 a5 a6 a7 a8}
    (h : Cert.Pre_inputs_in_range.fn (F := Ideal) a0 a1 a2 a3 a4 a5 a6 a7 a8 = fun _ => 1#1) (b : Fin 32) (t : Fin 512) :
    (a1 (ix3 b t 1)).toNat ≤ 512 := by
  obtain ⟨h1, h2, h3⟩ := range_parts h b t
  have h1 := lt_of_slt h1
  have h2 := le_of_sge h2
  have h3 := le_of_sle h3
  rw [show (0#32 : BitVec 32).toInt = 0 from by decide] at h2
  rw [show (512#32 : BitVec 32).toInt = 512 from by decide, toInt_nonneg (h2.trans h1.le)] at h3
  omega

/-- Under `inputs_in_range` the embeddings, the taps and the biases are finite. -/
theorem real_of_range {a0 a1} {a2 : FVec Ideal Pre_inputs_in_range.S50000x300 .f32} {a3 : FVec Ideal Pre_inputs_in_range.S512x1x3x300 .f32}
    {a4 : FVec Ideal Pre_inputs_in_range.S512 .f32} {a5 a6 a7 a8}
    (h : Cert.Pre_inputs_in_range.fn (F := Ideal) a0 a1 a2 a3 a4 a5 a6 a7 a8 = fun _ => 1#1) :
    (∀ i, Cert.Spec.Real' (a2 i)) ∧ (∀ i, Cert.Spec.Real' (a3 i)) ∧ (∀ i, Cert.Spec.Real' (a4 i)) := by
  haveI : Subsingleton Pre_inputs_in_range.S_.Idx := ⟨fun x y => funext fun a => a.elim0⟩
  have h := congrFun h (ix2 0 0)
  unfold Cert.Pre_inputs_in_range.fn Cert.Pre_inputs_in_range.fn_part1 at h
  have h := (both_set _ _ h).2
  have h := both_set _ _ h
  have h' := both_set _ _ h.1
  exact ⟨fun i => real_of_abs (Host.reduce_andi_all _ _ _ _ _ h'.1 i), fun i => real_of_abs (Host.reduce_andi_all _ _ _ _ _ h'.2 i),
    fun i => real_of_abs (Host.reduce_andi_all _ _ _ _ _ h.2 i)⟩

end Cert.Range

end
-- ==== Proof.lean ====
module

public import proofs.«01_k».proof.Defs
public import proofs.«01_k».proof.Proof.KI.Value
public import proofs.«01_k».proof.Proof.KB.Table
public import proofs.«01_k».proof.Proof.Gen.ReferenceIdeal.Run
public import proofs.«01_k».proof.Proof.Gen.Pre_inputs_in_range
public import proofs.«01_k».proof.Proof.Spans

@[expose] public section

noncomputable section

namespace Cert.Proof

open Idealize.ShloMosaic Idealize.SL.Sem

/-- The reference leaves its arguments as they were: it writes results only, and it has no semaphore. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) :=
  (θ_run Cert.ReferenceIdeal.defs _ _).mono (fun r h => ⟨fun c => (h c).2.2,
      Idealize.ShloMosaic.sem_eq_zero_of_no_sems (by decide) r.2⟩)
    (Cert.ReferenceIdeal.Value.run (F := Ideal) m g)

section Kernel

open Cert.KernelIdeal Cert.KernelIdeal.Hand Cert.KernelIdeal.Gen Idealize.ShloMosaic.TcCoe

/-- The kernel over the extended reals: its first result is the reference's stages on its arguments, its second the
    running sums, and the arguments are as they were. -/
theorem kernel_run (m : (ℓ : Loc Cert.KernelIdeal.nD Cert.KernelIdeal.τ Cert.KernelIdeal.sig) → Buf (Elt Ideal) ℓ)
    (g : Dev Cert.KernelIdeal.nD → PrngReg) (hO : Ok m) (hG : ∀ c, Good m c) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc main_v15) = target m c
        ∧ r.2.mem ((c.tc : Thread Cert.KernelIdeal.nD Cert.KernelIdeal.τ).loc main_v17) = Host.reduceWindow IntOp.addi ![32] ![1] ![31] ![0] (broadcastInDim S32 ![] bcast_S_S32 (constantI S_ 32 512#32)) (broadcastInDim S_ ![] bcast_S_S_ (constantI S_ 32 0#32)) reduceWindows_S32_S32_w32s1p31_0 h_S_
        ∧ r.2.mem ((c.tc : Thread Cert.KernelIdeal.nD Cert.KernelIdeal.τ).loc main_arg0) = m ((c.tc : Thread Cert.KernelIdeal.nD Cert.KernelIdeal.τ).loc main_arg0)
        ∧ r.2.mem ((c.tc : Thread Cert.KernelIdeal.nD Cert.KernelIdeal.τ).loc main_arg1) = m ((c.tc : Thread Cert.KernelIdeal.nD Cert.KernelIdeal.τ).loc main_arg1)
        ∧ r.2.mem ((c.tc : Thread Cert.KernelIdeal.nD Cert.KernelIdeal.τ).loc main_arg2) = m ((c.tc : Thread Cert.KernelIdeal.nD Cert.KernelIdeal.τ).loc main_arg2)
        ∧ r.2.mem ((c.tc : Thread Cert.KernelIdeal.nD Cert.KernelIdeal.τ).loc main_arg3) = m ((c.tc : Thread Cert.KernelIdeal.nD Cert.KernelIdeal.τ).loc main_arg3)
        ∧ r.2.mem ((c.tc : Thread Cert.KernelIdeal.nD Cert.KernelIdeal.τ).loc main_arg4) = m ((c.tc : Thread Cert.KernelIdeal.nD Cert.KernelIdeal.τ).loc main_arg4)
        ∧ r.2.mem ((c.tc : Thread Cert.KernelIdeal.nD Cert.KernelIdeal.τ).loc main_arg5) = m ((c.tc : Thread Cert.KernelIdeal.nD Cert.KernelIdeal.τ).loc main_arg5)
        ∧ r.2.mem ((c.tc : Thread Cert.KernelIdeal.nD Cert.KernelIdeal.τ).loc main_arg6) = m ((c.tc : Thread Cert.KernelIdeal.nD Cert.KernelIdeal.τ).loc main_arg6)
        ∧ r.2.mem ((c.tc : Thread Cert.KernelIdeal.nD Cert.KernelIdeal.τ).loc main_arg7) = m ((c.tc : Thread Cert.KernelIdeal.nD Cert.KernelIdeal.τ).loc main_arg7)
        ∧ r.2.mem ((c.tc : Thread Cert.KernelIdeal.nD Cert.KernelIdeal.τ).loc main_arg8) = m ((c.tc : Thread Cert.KernelIdeal.nD Cert.KernelIdeal.τ).loc main_arg8)) :=
  (θ_run Cert.KernelIdeal.defs _ _).mono (fun r h c => ⟨((h.1 c).2 main_v15 (by decide : main_v15 ∈ Pipeline.restRefs sig spec0)).trans (final_v15 m hO c (hG c)),
    ((h.1 c).2 main_v17 (by decide : main_v17 ∈ Pipeline.restRefs sig spec0)).trans (final_v17 m hO c),
    ((h.1 c).2 main_arg0 (by decide : main_arg0 ∈ Pipeline.restRefs sig spec0)).trans (final_main_arg0 m hO c), ((h.1 c).2 main_arg1 (by decide : main_arg1 ∈ Pipeline.restRefs sig spec0)).trans (final_main_arg1 m hO c), ((h.1 c).2 main_arg2 (by decide : main_arg2 ∈ Pipeline.restRefs sig spec0)).trans (final_main_arg2 m hO c), ((h.1 c).2 main_arg3 (by decide : main_arg3 ∈ Pipeline.restRefs sig spec0)).trans (final_main_arg3 m hO c), ((h.1 c).2 main_arg4 (by decide : main_arg4 ∈ Pipeline.restRefs sig spec0)).trans (final_main_arg4 m hO c), ((h.1 c).2 main_arg5 (by decide : main_arg5 ∈ Pipeline.restRefs sig spec0)).trans (final_main_arg5 m hO c), ((h.1 c).2 main_arg6 (by decide : main_arg6 ∈ Pipeline.restRefs sig spec0)).trans (final_main_arg6 m hO c), ((h.1 c).2 main_arg7 (by decide : main_arg7 ∈ Pipeline.restRefs sig spec0)).trans (final_main_arg7 m hO c), ((h.1 c).2 main_arg8 (by decide : main_arg8 ∈ Pipeline.restRefs sig spec0)).trans (final_main_arg8 m hO c)⟩) (run_main m g hO)

end Kernel

/-- What `inputs_in_range` gives of the kernel's arguments. -/
theorem good_of_range {m : (ℓ : Loc Cert.KernelIdeal.nD Cert.KernelIdeal.τ Cert.KernelIdeal.sig) → Buf (Elt Ideal) ℓ}
    (h : Cert.Pre_KernelIdeal_inputs_in_range m) (c : Dev Cert.KernelIdeal.nD) : Cert.KernelIdeal.Hand.Good m c where
  words b s := Cert.Range.words_of_range (h c) (ix2 b s)
  span b t := Cert.Range.span_of_range (h c) b t
  fits b t := Cert.Range.fits_of_range (h c) b t
  rows := (Cert.Range.real_of_range (h c)).1
  taps := (Cert.Range.real_of_range (h c)).2.1
  bias := (Cert.Range.real_of_range (h c)).2.2

/-- The table the kernel reads is in range. -/
theorem ok_of_range {m : (ℓ : Loc Cert.KernelIdeal.nD Cert.KernelIdeal.τ Cert.KernelIdeal.sig) → Buf (Elt Ideal) ℓ}
    (h : Cert.Pre_KernelIdeal_inputs_in_range m) : Cert.KernelIdeal.Hand.Ok m :=
  Cert.KernelIdeal.Hand.ok_of_words m fun i => Cert.Range.words_of_range (h 0) i

/-- From agreeing arguments the kernel and the reference end with equal results. -/
theorem equal : Cert.algebraic_KernelIdeal_ReferenceIdeal_pre_inputs_in_range := by
  intro m g m' g' h ha
  refine ⟨_, _, kernel_run m g (ok_of_range h) (good_of_range h), ?_⟩
  refine (θ_run Cert.ReferenceIdeal.defs _ _).mono (fun r hr c => ?_) (Cert.ReferenceIdeal.Value.run (F := Ideal) m' g')
  obtain ⟨a0, a1, a2, a3, a4, a5, a6, a7, a8⟩ := ha c
  obtain ⟨h0, h1, h2⟩ := hr c
  refine ⟨h0.trans ?_, h1, h2⟩
  rw [Cert.ReferenceIdeal.Stages.res_eq, a0, a1, a2, a3, a4, a5, a6, a7, a8]
  rfl

/-- The claims of the certificate, one after another: the frames, the rewriting that changes nothing, and the equality. -/
theorem claim : Cert.Claim := ⟨Cert.Kernel.Gen.facts, Cert.KernelIdeal.Gen.facts, Cert.ReferenceIdeal.Gen.facts, Cert.Pre_words_in_table.Gen.facts,
  Cert.Pre_inputs_in_range.Gen.facts,
  fun m ρ h => Cert.Kernel.Hand.frame_run m ρ (Cert.Kernel.Hand.ok_of_words m fun i => Cert.Range.words_of_table (h 0) i),
  fun m ρ h => Cert.KernelIdeal.Hand.frame_run m ρ (Cert.KernelIdeal.Hand.ok_of_words m fun i => Cert.Range.words_of_table (h 0) i),
  fun m ρ h => Cert.KernelIdeal.Hand.frame_run m ρ (ok_of_range h),
  fun m ρ _ => frame_ref m ρ,
  fun m ρ _ => frame_ref m ρ,
  trivial,
  equal⟩

end Cert.Proof

end
